-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "qk_scale" .f32 0x3E8293EE#32 (((11863283 / 67108864) * (Real.log 2)⁻¹ : ℝ) : EReal)
  ∧ IdealRules.named_const.Statement Cert.KernelIdeal.κ "neg_big" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x256 : Shape := ⟨3, ![4, 4096, 256]⟩
abbrev S4x32 : Shape := ⟨2, ![4, 32]⟩
abbrev S64 : Shape := ⟨1, ![64]⟩
abbrev S64x256x256 : Shape := ⟨3, ![64, 256, 256]⟩
abbrev S16384x256 : Shape := ⟨2, ![16384, 256]⟩
abbrev S64x1 : Shape := ⟨2, ![64, 1]⟩
abbrev S1x256x256 : Shape := ⟨3, ![1, 256, 256]⟩
abbrev S4096x256 : Shape := ⟨2, ![4096, 256]⟩
abbrev S16x256x256 : Shape := ⟨3, ![16, 256, 256]⟩
abbrev S256x256 : Shape := ⟨2, ![256, 256]⟩
abbrev S16x2048x256 : Shape := ⟨3, ![16, 2048, 256]⟩
abbrev S8x1x256 : Shape := ⟨3, ![8, 1, 256]⟩
abbrev S8x80x256 : Shape := ⟨3, ![8, 80, 256]⟩
abbrev S2x2048x256 : Shape := ⟨3, ![2, 2048, 256]⟩
abbrev S2x8x1x256 : Shape := ⟨4, ![2, 8, 1, 256]⟩
abbrev S8x256x256 : Shape := ⟨3, ![8, 256, 256]⟩
abbrev S16x256 : Shape := ⟨2, ![16, 256]⟩
abbrev S1x2048x256 : Shape := ⟨3, ![1, 2048, 256]⟩
abbrev S2048x256 : Shape := ⟨2, ![2048, 256]⟩
abbrev S256 : Shape := ⟨1, ![256]⟩
abbrev S1x256 : Shape := ⟨2, ![1, 256]⟩
abbrev S1x1x1x256 : Shape := ⟨4, ![1, 1, 1, 256]⟩
abbrev S1x1x256 : Shape := ⟨3, ![1, 1, 256]⟩
abbrev S64x256 : Shape := ⟨2, ![64, 256]⟩
abbrev S80x256 : Shape := ⟨2, ![80, 256]⟩
abbrev S1x80x256 : Shape := ⟨3, ![1, 80, 256]⟩
abbrev S1x32 : Shape := ⟨2, ![1, 32]⟩
abbrev S1 : Shape := ⟨1, ![1]⟩
abbrev S1x1 : Shape := ⟨2, ![1, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x32, .f32⟩
  | .hbm, ⟨4, _⟩ => ⟨S64, .f32⟩
  | .hbm, ⟨5, _⟩ => ⟨S64x256x256, .f32⟩
  | .hbm, ⟨6, _⟩ => ⟨S64x256x256, .f32⟩
  | .hbm, ⟨7, _⟩ => ⟨S16384x256, .f32⟩
  | .hbm, ⟨8, _⟩ => ⟨S16384x256, .bf16⟩
  | .hbm, ⟨9, _⟩ => ⟨S64x256x256, .f32⟩
  | .hbm, ⟨10, _⟩ => ⟨S64x256x256, .f32⟩
  | .hbm, ⟨11, _⟩ => ⟨S64x256x256, .bf16⟩
  | .hbm, ⟨12, _⟩ => ⟨S64x1, .f32⟩
  | .hbm, ⟨13, _⟩ => ⟨S16384x256, .bf16⟩
  | .local _ .vmem, ⟨0, _⟩ => ⟨S1x256x256, .f32⟩
  | .local _ .vmem, ⟨1, _⟩ => ⟨S1x256x256, .f32⟩
  | .local _ .vmem, ⟨2, _⟩ => ⟨S4096x256, .bf16⟩
  | .local _ .vmem, ⟨3, _⟩ => ⟨S4096x256, .bf16⟩
  | .local _ .vmem, ⟨4, _⟩ => ⟨S16x256x256, .bf16⟩
  | .local _ .vmem, ⟨5, _⟩ => ⟨S16x256x256, .bf16⟩
  | .local _ .vmem, ⟨6, _⟩ => ⟨S4x32, .f32⟩
  | .local _ .vmem, ⟨7, _⟩ => ⟨S64x1, .f32⟩
  | .local _ .vmem, ⟨8, _⟩ => ⟨S256x256, .bf16⟩
  | .local _ .vmem, ⟨9, _⟩ => ⟨S256x256, .bf16⟩
  | .local _ .vmem, ⟨10, _⟩ => ⟨S16x2048x256, .bf16⟩
  | .local _ .vmem, ⟨11, _⟩ => ⟨S8x1x256, .f32⟩
  | .local _ .vmem, ⟨12, _⟩ => ⟨S8x1x256, .f32⟩
  | .local _ .vmem, ⟨13, _⟩ => ⟨S8x80x256, .f32⟩
  | .local _ .vmem, ⟨14, _⟩ => ⟨S2x2048x256, .f32⟩
  | .local _ .vmem, ⟨15, _⟩ => ⟨S2x8x1x256, .f32⟩
  | .local _ .vmem, ⟨16, _⟩ => ⟨S8x256x256, .bf16⟩
  | .local _ .vmem, ⟨17, _⟩ => ⟨S256x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_58 : BitVec 32 := 0#32
  let arg1 : BitVec 32 := BitVec.ofNat 32 (i 1).val
  let c0_i32_52 : BitVec 32 := 0#32
  let v72 : BitVec 1 := Scalar.cmpi .sgt arg1 c0_i32_52
  let v73 : BitVec 32 := Scalar.extui v72
  let c0_i32_53 : BitVec 32 := 0#32
  let v74 : BitVec 1 := Scalar.cmpi .slt arg1 c0_i32_53
  let v75 : BitVec 32 := Scalar.extui v74
  let v76 : BitVec 32 := Scalar.subi v73 v75
  let c2_i32 : BitVec 32 := 2#32
  let c0_i32_54 : BitVec 32 := 0#32
  let v77 : BitVec 1 := Scalar.cmpi .sgt c2_i32 c0_i32_54
  let v78 : BitVec 32 := Scalar.extui v77
  let c0_i32_55 : BitVec 32 := 0#32
  let v79 : BitVec 1 := Scalar.cmpi .slt c2_i32 c0_i32_55
  let v80 : BitVec 32 := Scalar.extui v79
  let v81 : BitVec 32 := Scalar.subi v78 v80
  let v82 : BitVec 1 := Scalar.cmpi .ne v76 v81
  let v83 : BitVec 32 := Scalar.remsi arg1 c2_i32
  let c0_i32_56 : BitVec 32 := 0#32
  let v84 : BitVec 1 := Scalar.cmpi .ne v83 c0_i32_56
  let v85 : BitVec 1 := Scalar.andi v82 v84
  let v71 : BitVec 32 := Scalar.divsi arg1 c2_i32
  let c1_i32 : BitVec 32 := 1#32
  let v86 : BitVec 32 := Scalar.subi v71 c1_i32
  let v87 : BitVec 32 := Scalar.select v85 v86 v71
  let v88 : BitVec 32 := Scalar.subi v87 c0_i32_58
  let c1_i32_59 : BitVec 32 := 1#32
  let v90 : BitVec 32 := Scalar.divsi v88 c1_i32_59
  let v91 : BitVec 32 := Scalar.muli v90 c1_i32_59
  let v92 : BitVec 32 := Scalar.addi c0_i32_58 v91
  let c1_i32_60 : BitVec 32 := 1#32
  ⟨c0_i32_58, v92, c1_i32_60⟩
def k0_off1 (i : grid0.Coords) (k0_t1 : Fin (k0_t1_loop i).trips) : Fin 3 → Nat :=
  let c2_i32_134 : BitVec 32 := 2#32
  let c0_i32_58 : BitVec 32 := 0#32
  let c1_i32_60 : BitVec 32 := 1#32
  let arg16 : BitVec 32 := Scf.iv c0_i32_58 c1_i32_60 k0_t1
  let v269 : BitVec 32 := Scalar.muli c2_i32_134 arg16
  let v271 : Index := Scalar.indexCast v269
  let c0_136 : Index := 0#32
  let c0_137 : Index := 0#32
  ![v271.toNat, 0, 0]
def k0_off2 (i : grid0.Coords) (k0_t1 : Fin (k0_t1_loop i).trips) (c1_i32_135 : BitVec 32) : Fin 3 → Nat :=
  let c2_i32_134 : BitVec 32 := 2#32
  let c0_i32_58 : BitVec 32 := 0#32
  let c1_i32_60 : BitVec 32 := 1#32
  let arg16 : BitVec 32 := Scf.iv c0_i32_58 c1_i32_60 k0_t1
  let v269 : BitVec 32 := Scalar.muli c2_i32_134 arg16
  let v270 : BitVec 32 := Scalar.addi v269 c1_i32_135
  let v274 : Index := Scalar.indexCast v270
  let c0_138 : Index := 0#32
  let c0_139 : Index := 0#32
  ![v274.toNat, 0, 0]
def k0_off3 (i : grid0.Coords) (k0_t1 : Fin (k0_t1_loop i).trips) : Fin 3 → Nat :=
  let c2_i32_134 : BitVec 32 := 2#32
  let c0_i32_58 : BitVec 32 := 0#32
  let c1_i32_60 : BitVec 32 := 1#32
  let arg16 : BitVec 32 := Scf.iv c0_i32_58 c1_i32_60 k0_t1
  let v269 : BitVec 32 := Scalar.muli c2_i32_134 arg16
  let c1_i32_433 : BitVec 32 := 1#32
  let v625 : BitVec 32 := Scalar.addi v269 c1_i32_433
  let v627 : Index := Scalar.indexCast v625
  let c0_435 : Index := 0#32
  let c0_436 : Index := 0#32
  ![v627.toNat, 0, 0]
@[reducible] def k0_t2_loop (i : grid0.Coords) : Scf.Loop 32 :=
  let c0_i32_58 : BitVec 32 := 0#32
  let arg1 : BitVec 32 := BitVec.ofNat 32 (i 1).val
  let c0_i32_52 : BitVec 32 := 0#32
  let v72 : BitVec 1 := Scalar.cmpi .sgt arg1 c0_i32_52
  let v73 : BitVec 32 := Scalar.extui v72
  let c0_i32_53 : BitVec 32 := 0#32
  let v74 : BitVec 1 := Scalar.cmpi .slt arg1 c0_i32_53
  let v75 : BitVec 32 := Scalar.extui v74
  let v76 : BitVec 32 := Scalar.subi v73 v75
  let c2_i32 : BitVec 32 := 2#32
  let c0_i32_54 : BitVec 32 := 0#32
  let v77 : BitVec 1 := Scalar.cmpi .sgt c2_i32 c0_i32_54
  let v78 : BitVec 32 := Scalar.extui v77
  let c0_i32_55 : BitVec 32 := 0#32
  let v79 : BitVec 1 := Scalar.cmpi .slt c2_i32 c0_i32_55
  let v80 : BitVec 32 := Scalar.extui v79
  let v81 : BitVec 32 := Scalar.subi v78 v80
  let v82 : BitVec 1 := Scalar.cmpi .ne v76 v81
  let v83 : BitVec 32 := Scalar.remsi arg1 c2_i32
  let c0_i32_56 : BitVec 32 := 0#32
  let v84 : BitVec 1 := Scalar.cmpi .ne v83 c0_i32_56
  let v85 : BitVec 1 := Scalar.andi v82 v84
  let v71 : BitVec 32 := Scalar.divsi arg1 c2_i32
  let c1_i32 : BitVec 32 := 1#32
  let v86 : BitVec 32 := Scalar.subi v71 c1_i32
  let v87 : BitVec 32 := Scalar.select v85 v86 v71
  let v88 : BitVec 32 := Scalar.subi v87 c0_i32_58
  let c1_i32_59 : BitVec 32 := 1#32
  let v90 : BitVec 32 := Scalar.divsi v88 c1_i32_59
  let v91 : BitVec 32 := Scalar.muli v90 c1_i32_59
  let v92 : BitVec 32 := Scalar.addi c0_i32_58 v91
  let v89 : BitVec 32 := Scalar.addi c0_i32_58 v88
  let c1_i32_61 : BitVec 32 := 1#32
  ⟨v92, v89, c1_i32_61⟩
def k0_off4 (i : grid0.Coords) (k0_t2 : Fin (k0_t2_loop i).trips) : Fin 3 → Nat :=
  let c2_i32_134 : BitVec 32 := 2#32
  let c0_i32_58 : BitVec 32 := 0#32
  let arg1 : BitVec 32 := BitVec.ofNat 32 (i 1).val
  let c0_i32_52 : BitVec 32 := 0#32
  let v72 : BitVec 1 := Scalar.cmpi .sgt arg1 c0_i32_52
  let v73 : BitVec 32 := Scalar.extui v72
  let c0_i32_53 : BitVec 32 := 0#32
  let v74 : BitVec 1 := Scalar.cmpi .slt arg1 c0_i32_53
  let v75 : BitVec 32 := Scalar.extui v74
  let v76 : BitVec 32 := Scalar.subi v73 v75
  let c2_i32 : BitVec 32 := 2#32
  let c0_i32_54 : BitVec 32 := 0#32
  let v77 : BitVec 1 := Scalar.cmpi .sgt c2_i32 c0_i32_54
  let v78 : BitVec 32 := Scalar.extui v77
  let c0_i32_55 : BitVec 32 := 0#32
  let v79 : BitVec 1 := Scalar.cmpi .slt c2_i32 c0_i32_55
  let v80 : BitVec 32 := Scalar.extui v79
  let v81 : BitVec 32 := Scalar.subi v78 v80
  let v82 : BitVec 1 := Scalar.cmpi .ne v76 v81
  let v83 : BitVec 32 := Scalar.remsi arg1 c2_i32
  let c0_i32_56 : BitVec 32 := 0#32
  let v84 : BitVec 1 := Scalar.cmpi .ne v83 c0_i32_56
  let v85 : BitVec 1 := Scalar.andi v82 v84
  let v71 : BitVec 32 := Scalar.divsi arg1 c2_i32
  let c1_i32 : BitVec 32 := 1#32
  let v86 : BitVec 32 := Scalar.subi v71 c1_i32
  let v87 : BitVec 32 := Scalar.select v85 v86 v71
  let v88 : BitVec 32 := Scalar.subi v87 c0_i32_58
  let c1_i32_59 : BitVec 32 := 1#32
  let v90 : BitVec 32 := Scalar.divsi v88 c1_i32_59
  let v91 : BitVec 32 := Scalar.muli v90 c1_i32_59
  let v92 : BitVec 32 := Scalar.addi c0_i32_58 v91
  let c1_i32_61 : BitVec 32 := 1#32
  let arg16 : BitVec 32 := Scf.iv v92 c1_i32_61 k0_t2
  let v269 : BitVec 32 := Scalar.muli c2_i32_134 arg16
  let v271 : Index := Scalar.indexCast v269
  let c0_136 : Index := 0#32
  let c0_137 : Index := 0#32
  ![v271.toNat, 0, 0]
def k0_off5 (i : grid0.Coords) (k0_t2 : Fin (k0_t2_loop i).trips) (c1_i32_135 : BitVec 32) : Fin 3 → Nat :=
  let c2_i32_134 : BitVec 32 := 2#32
  let c0_i32_58 : BitVec 32 := 0#32
  let arg1 : BitVec 32 := BitVec.ofNat 32 (i 1).val
  let c0_i32_52 : BitVec 32 := 0#32
  let v72 : BitVec 1 := Scalar.cmpi .sgt arg1 c0_i32_52
  let v73 : BitVec 32 := Scalar.extui v72
  let c0_i32_53 : BitVec 32 := 0#32
  let v74 : BitVec 1 := Scalar.cmpi .slt arg1 c0_i32_53
  let v75 : BitVec 32 := Scalar.extui v74
  let v76 : BitVec 32 := Scalar.subi v73 v75
  let c2_i32 : BitVec 32 := 2#32
  let c0_i32_54 : BitVec 32 := 0#32
  let v77 : BitVec 1 := Scalar.cmpi .sgt c2_i32 c0_i32_54
  let v78 : BitVec 32 := Scalar.extui v77
  let c0_i32_55 : BitVec 32 := 0#32
  let v79 : BitVec 1 := Scalar.cmpi .slt c2_i32 c0_i32_55
  let v80 : BitVec 32 := Scalar.extui v79
  let v81 : BitVec 32 := Scalar.subi v78 v80
  let v82 : BitVec 1 := Scalar.cmpi .ne v76 v81
  let v83 : BitVec 32 := Scalar.remsi arg1 c2_i32
  let c0_i32_56 : BitVec 32 := 0#32
  let v84 : BitVec 1 := Scalar.cmpi .ne v83 c0_i32_56
  let v85 : BitVec 1 := Scalar.andi v82 v84
  let v71 : BitVec 32 := Scalar.divsi arg1 c2_i32
  let c1_i32 : BitVec 32 := 1#32
  let v86 : BitVec 32 := Scalar.subi v71 c1_i32
  let v87 : BitVec 32 := Scalar.select v85 v86 v71
  let v88 : BitVec 32 := Scalar.subi v87 c0_i32_58
  let c1_i32_59 : BitVec 32 := 1#32
  let v90 : BitVec 32 := Scalar.divsi v88 c1_i32_59
  let v91 : BitVec 32 := Scalar.muli v90 c1_i32_59
  let v92 : BitVec 32 := Scalar.addi c0_i32_58 v91
  let c1_i32_61 : BitVec 32 := 1#32
  let arg16 : BitVec 32 := Scf.iv v92 c1_i32_61 k0_t2
  let v269 : BitVec 32 := Scalar.muli c2_i32_134 arg16
  let v270 : BitVec 32 := Scalar.addi v269 c1_i32_135
  let v274 : Index := Scalar.indexCast v270
  let c0_138 : Index := 0#32
  let c0_139 : Index := 0#32
  ![v274.toNat, 0, 0]
def k0_off6 (i : grid0.Coords) (k0_t2 : Fin (k0_t2_loop i).trips) : Fin 3 → Nat :=
  let c2_i32_134 : BitVec 32 := 2#32
  let c0_i32_58 : BitVec 32 := 0#32
  let arg1 : BitVec 32 := BitVec.ofNat 32 (i 1).val
  let c0_i32_52 : BitVec 32 := 0#32
  let v72 : BitVec 1 := Scalar.cmpi .sgt arg1 c0_i32_52
  let v73 : BitVec 32 := Scalar.extui v72
  let c0_i32_53 : BitVec 32 := 0#32
  let v74 : BitVec 1 := Scalar.cmpi .slt arg1 c0_i32_53
  let v75 : BitVec 32 := Scalar.extui v74
  let v76 : BitVec 32 := Scalar.subi v73 v75
  let c2_i32 : BitVec 32 := 2#32
  let c0_i32_54 : BitVec 32 := 0#32
  let v77 : BitVec 1 := Scalar.cmpi .sgt c2_i32 c0_i32_54
  let v78 : BitVec 32 := Scalar.extui v77
  let c0_i32_55 : BitVec 32 := 0#32
  let v79 : BitVec 1 := Scalar.cmpi .slt c2_i32 c0_i32_55
  let v80 : BitVec 32 := Scalar.extui v79
  let v81 : BitVec 32 := Scalar.subi v78 v80
  let v82 : BitVec 1 := Scalar.cmpi .ne v76 v81
  let v83 : BitVec 32 := Scalar.remsi arg1 c2_i32
  let c0_i32_56 : BitVec 32 := 0#32
  let v84 : BitVec 1 := Scalar.cmpi .ne v83 c0_i32_56
  let v85 : BitVec 1 := Scalar.andi v82 v84
  let v71 : BitVec 32 := Scalar.divsi arg1 c2_i32
  let c1_i32 : BitVec 32 := 1#32
  let v86 : BitVec 32 := Scalar.subi v71 c1_i32
  let v87 : BitVec 32 := Scalar.select v85 v86 v71
  let v88 : BitVec 32 := Scalar.subi v87 c0_i32_58
  let c1_i32_59 : BitVec 32 := 1#32
  let v90 : BitVec 32 := Scalar.divsi v88 c1_i32_59
  let v91 : BitVec 32 := Scalar.muli v90 c1_i32_59
  let v92 : BitVec 32 := Scalar.addi c0_i32_58 v91
  let c1_i32_61 : BitVec 32 := 1#32
  let arg16 : BitVec 32 := Scf.iv v92 c1_i32_61 k0_t2
  let v269 : BitVec 32 := Scalar.muli c2_i32_134 arg16
  let c1_i32_433 : BitVec 32 := 1#32
  let v625 : BitVec 32 := Scalar.addi v269 c1_i32_433
  let v627 : Index := Scalar.indexCast v625
  let c0_435 : Index := 0#32
  let c0_436 : Index := 0#32
  ![v627.toNat, 0, 0]
def k0_cond2 (i : grid0.Coords) : BitVec 1 :=
  let arg1 : BitVec 32 := BitVec.ofNat 32 (i 1).val
  let c2_i32_62 : BitVec 32 := 2#32
  let c0_i32_63 : BitVec 32 := 0#32
  let v93 : BitVec 1 := Scalar.cmpi .eq c2_i32_62 c0_i32_63
  let c1_i32_64 : BitVec 32 := 1#32
  let v94 : BitVec 32 := Scalar.select v93 c1_i32_64 c2_i32_62
  let v95 : BitVec 32 := Scalar.remsi arg1 v94
  let c0_i32_66 : BitVec 32 := 0#32
  let v97 : BitVec 1 := Scalar.cmpi .slt v95 c0_i32_66
  let c0_i32_67 : BitVec 32 := 0#32
  let v98 : BitVec 1 := Scalar.cmpi .slt v94 c0_i32_67
  let v99 : BitVec 1 := Scalar.xori v97 v98
  let c0_i32_65 : BitVec 32 := 0#32
  let v96 : BitVec 1 := Scalar.cmpi .ne v95 c0_i32_65
  let v100 : BitVec 1 := Scalar.andi v99 v96
  let v101 : BitVec 32 := Scalar.addi v95 v94
  let v102 : BitVec 32 := Scalar.select v100 v101 v95
  let c0_i32_68 : BitVec 32 := 0#32
  let v103 : BitVec 1 := Scalar.cmpi .eq v102 c0_i32_68
  let v104 : BitVec 32 := Scalar.extui v103
  let c0_i32_69 : BitVec 32 := 0#32
  let v105 : BitVec 1 := Scalar.cmpi .ne v104 c0_i32_69
  v105

def k0_off7 (i : grid0.Coords) : Fin 3 → Nat :=
  let arg1 : BitVec 32 := BitVec.ofNat 32 (i 1).val
  let v269 : Index := Scalar.indexCast arg1
  let c0_134 : Index := 0#32
  let c0_135 : Index := 0#32
  ![v269.toNat, 0, 0]
def k0_cond3 (i : grid0.Coords) : BitVec 1 :=
  let arg1 : BitVec 32 := BitVec.ofNat 32 (i 1).val
  let c2_i32_70 : BitVec 32 := 2#32
  let c0_i32_71 : BitVec 32 := 0#32
  let v106 : BitVec 1 := Scalar.cmpi .eq c2_i32_70 c0_i32_71
  let c1_i32_72 : BitVec 32 := 1#32
  let v107 : BitVec 32 := Scalar.select v106 c1_i32_72 c2_i32_70
  let v108 : BitVec 32 := Scalar.remsi arg1 v107
  let c0_i32_74 : BitVec 32 := 0#32
  let v110 : BitVec 1 := Scalar.cmpi .slt v108 c0_i32_74
  let c0_i32_75 : BitVec 32 := 0#32
  let v111 : BitVec 1 := Scalar.cmpi .slt v107 c0_i32_75
  let v112 : BitVec 1 := Scalar.xori v110 v111
  let c0_i32_73 : BitVec 32 := 0#32
  let v109 : BitVec 1 := Scalar.cmpi .ne v108 c0_i32_73
  let v113 : BitVec 1 := Scalar.andi v112 v109
  let v114 : BitVec 32 := Scalar.addi v108 v107
  let v115 : BitVec 32 := Scalar.select v113 v114 v108
  let c1_i32_76 : BitVec 32 := 1#32
  let v116 : BitVec 1 := Scalar.cmpi .eq v115 c1_i32_76
  let v117 : BitVec 32 := Scalar.extui v116
  let c0_i32_77 : BitVec 32 := 0#32
  let v118 : BitVec 1 := Scalar.cmpi .ne v117 c0_i32_77
  v118

def k0_off8 (i : grid0.Coords) : Fin 3 → Nat :=
  let arg1 : BitVec 32 := BitVec.ofNat 32 (i 1).val
  let c1_i32_134 : BitVec 32 := 1#32
  let v269 : BitVec 32 := Scalar.subi arg1 c1_i32_134
  let v270 : Index := Scalar.indexCast v269
  let c0_135 : Index := 0#32
  let c0_136 : Index := 0#32
  ![v270.toNat, 0, 0]
def k0_off9 (i : grid0.Coords) : Fin 3 → Nat :=
  let arg1 : BitVec 32 := BitVec.ofNat 32 (i 1).val
  let v273 : Index := Scalar.indexCast arg1
  let c0_137 : Index := 0#32
  let c0_138 : Index := 0#32
  ![v273.toNat, 0, 0]
def k0_off10 (i : grid0.Coords) : Fin 3 → Nat :=
  let arg1 : BitVec 32 := BitVec.ofNat 32 (i 1).val
  let v624 : Index := Scalar.indexCast arg1
  let c0_432 : Index := 0#32
  let c0_433 : Index := 0#32
  ![v624.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "neg_big" => some ⊥
  | "qk_scale" => some (((11863283 / 67108864) * (Real.log 2)⁻¹ : ℝ) : EReal)
  | _ => none
-- ==== ReferenceIdeal.lean ====
abbrev S4x4096x256 : Shape := ⟨3, ![4, 4096, 256]⟩
abbrev S4x32 : Shape := ⟨2, ![4, 32]⟩
abbrev S64 : Shape := ⟨1, ![64]⟩
abbrev S4x4096x4x64 : Shape := ⟨4, ![4, 4096, 4, 64]⟩
abbrev S4x4x4096x64 : Shape := ⟨4, ![4, 4, 4096, 64]⟩
abbrev S4x4x4096x32 : Shape := ⟨4, ![4, 4, 4096, 32]⟩
abbrev S1x32 : Shape := ⟨2, ![1, 32]⟩
abbrev S32 : Shape := ⟨1, ![32]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S1x1x1x64 : Shape := ⟨4, ![1, 1, 1, 64]⟩
abbrev S16384x256 : Shape := ⟨2, ![16384, 256]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x32, .f32⟩
  | .hbm, ⟨4, _⟩ => ⟨S64, .f32⟩
  | .hbm, ⟨5, _⟩ => ⟨S4x4096x4x64, .f32⟩
  | .hbm, ⟨6, _⟩ => ⟨S4x4x4096x64, .f32⟩
  | .hbm, ⟨7, _⟩ => ⟨S4x4x4096x32, .f32⟩
  | .hbm, ⟨8, _⟩ => ⟨S4x4x4096x32, .f32⟩
  | .hbm, ⟨9, _⟩ => ⟨S4x4096x4x64, .f32⟩
  | .hbm, ⟨10, _⟩ => ⟨S4x4x4096x64, .f32⟩
  | .hbm, ⟨11, _⟩ => ⟨S4x4x4096x32, .f32⟩
  | .hbm, ⟨12, _⟩ => ⟨S4x4x4096x32, .f32⟩
  | .hbm, ⟨13, _⟩ => ⟨S4x4096x4x64, .f32⟩
  | .hbm, ⟨14, _⟩ => ⟨S4x4x4096x64, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4x4x4096x4096, .f32⟩
  | .hbm, ⟨41, _⟩ => ⟨S_, .f32⟩
  | .hbm, ⟨42, _⟩ => ⟨S4x4x4096x4096, .f32⟩
  | .hbm, ⟨43, _⟩ => ⟨S4x4x4096x4096, .f32⟩
  | .hbm, ⟨44, _⟩ => ⟨S_, .f32⟩
  | .hbm, ⟨45, _⟩ => ⟨S_, .f32⟩
  | .hbm, ⟨46, _⟩ => ⟨S4x4x4096x4096, .i1⟩
  | .hbm, ⟨47, _⟩ => ⟨S4x4x4096x4096, .f32⟩
  | .hbm, ⟨48, _⟩ => ⟨S4x4x4096x4096, .f32⟩
  | .hbm, ⟨49, _⟩ => ⟨S_, .f32⟩
  | .hbm, ⟨50, _⟩ => ⟨S4x4x4096, .f32⟩
  | .hbm, ⟨51, _⟩ => ⟨S_, .f32⟩
  | .hbm, ⟨52, _⟩ => ⟨S4x4x4096, .f32⟩
  | .hbm, ⟨53, _⟩ => ⟨S4x4x4096, .f32⟩
  | .hbm, ⟨54, _⟩ => ⟨S4x4x4096x1, .f32⟩
  | .hbm, ⟨55, _⟩ => ⟨S4x4x4096x4096, .f32⟩
  | .hbm, ⟨56, _⟩ => ⟨S4x4x4096x4096, .f32⟩
  | .hbm, ⟨57, _⟩ => ⟨S4x4x4096x4096, .f32⟩
  | .hbm, ⟨58, _⟩ => ⟨S_, .f32⟩
  | .hbm, ⟨59, _⟩ => ⟨S4x4x4096, .f32⟩
  | .hbm, ⟨60, _⟩ => ⟨S4x4x4096x1, .f32⟩
  | .hbm, ⟨61, _⟩ => ⟨S4x4x4096x4096, .f32⟩
  | .hbm, ⟨62, _⟩ => ⟨S4x4x4096x4096, .f32⟩
  | .hbm, ⟨63, _⟩ => ⟨S4x4x4096x4096, .f32⟩
  | .hbm, ⟨64, _⟩ => ⟨S_, .f32⟩
  | .hbm, ⟨65, _⟩ => ⟨S4x4x4096x4096, .f32⟩
  | .hbm, ⟨66, _⟩ => ⟨S4x4x4096x4096, .f32⟩
  | .hbm, ⟨67, _⟩ => ⟨S_, .f32⟩
  | .hbm, ⟨68, _⟩ => ⟨S_, .f32⟩
  | .hbm, ⟨69, _⟩ => ⟨S4x4x4096x4096, .i1⟩
  | .hbm, ⟨70, _⟩ => ⟨S4x4x4096x4096, .f32⟩
  | .hbm, ⟨71, _⟩ => ⟨S4x4x4096x4096, .f32⟩
  | .hbm, ⟨72, _⟩ => ⟨S_, .f32⟩
  | .hbm, ⟨73, _⟩ => ⟨S4x4x4096, .f32⟩
  | .hbm, ⟨74, _⟩ => ⟨S_, .f32⟩
  | .hbm, ⟨75, _⟩ => ⟨S4x4x4096, .f32⟩
  | .hbm, ⟨76, _⟩ => ⟨S4x4x4096, .f32⟩
  | .hbm, ⟨77, _⟩ => ⟨S4x4x4096x1, .f32⟩
  | .hbm, ⟨78, _⟩ => ⟨S4x4x4096x4096, .f32⟩
  | .hbm, ⟨79, _⟩ => ⟨S4x4x4096x4096, .f32⟩
  | .hbm, ⟨80, _⟩ => ⟨S4x4x4096x4096, .f32⟩
  | .hbm, ⟨81, _⟩ => ⟨S_, .f32⟩
  | .hbm, ⟨82, _⟩ => ⟨S4x4x4096, .f32⟩
  | .hbm, ⟨83, _⟩ => ⟨S4x4x4096x1, .f32⟩
  | .hbm, ⟨84, _⟩ => ⟨S4x4x4096x4096, .f32⟩
  | .hbm, ⟨85, _⟩ => ⟨S4x4x4096x4096, .f32⟩
  | .hbm, ⟨86, _⟩ => ⟨S4x4x4096x4096, .f32⟩
  | .hbm, ⟨87, _⟩ => ⟨S4x4x4096x4096, .f32⟩
  | .hbm, ⟨88, _⟩ => ⟨S4x4x4096x4096, .f32⟩
  | .hbm, ⟨89, _⟩ => ⟨S4x4x4096x64, .f32⟩
  | .hbm, ⟨90, _⟩ => ⟨S4x4x4096x64, .f32⟩
  | .hbm, ⟨91, _⟩ => ⟨S_, .f32⟩
  | .hbm, ⟨92, _⟩ => ⟨S4x4x4096, .f32⟩
  | .hbm, ⟨93, _⟩ => ⟨S4x4x4096x1, .f32⟩
  | .hbm, ⟨94, _⟩ => ⟨S_, .f32⟩
  | .hbm, ⟨95, _⟩ => ⟨S4x4x4096x1, .f32⟩
  | .hbm, ⟨96, _⟩ => ⟨S4x4x4096x1, .f32⟩
  | .hbm, ⟨97, _⟩ => ⟨S_, .f32⟩
  | .hbm, ⟨98, _⟩ => ⟨S4x4x4096x1, .f32⟩
  | .hbm, ⟨99, _⟩ => ⟨S4x4x4096x1, .f32⟩
  | .hbm, ⟨100, _⟩ => ⟨S4x4x4096x1, .f32⟩
  | .hbm, ⟨101, _⟩ => ⟨S4x4x4096x64, .f32⟩
  | .hbm, ⟨102, _⟩ => ⟨S4x4x4096x64, .f32⟩
  | .hbm, ⟨103, _⟩ => ⟨S1x1x1x64, .f32⟩
  | .hbm, ⟨104, _⟩ => ⟨S4x4x4096x64, .f32⟩
  | .hbm, ⟨105, _⟩ => ⟨S4x4x4096x64, .f32⟩
  | .hbm, ⟨106, _⟩ => ⟨S_, .f32⟩
  | .hbm, ⟨107, _⟩ => ⟨S4x4x4096x64, .f32⟩
  | .hbm, ⟨108, _⟩ => ⟨S4x4x4096x64, .f32⟩
  | .hbm, ⟨109, _⟩ => ⟨S4x4096x4x64, .f32⟩
  | .hbm, ⟨110, _⟩ => ⟨S4x4096x256, .f32⟩
  | .hbm, ⟨111, _⟩ => ⟨S4x4096x256, .bf16⟩
  | .hbm, ⟨112, _⟩ => ⟨S16384x256, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Kernel2.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1x1024 : Shape := ⟨3, ![1, 1, 1024]⟩
abbrev S1024 : Shape := ⟨1, ![1024]⟩
abbrev S1x1024 : Shape := ⟨2, ![1, 1024]⟩
abbrev S2048x1024 : Shape := ⟨2, ![2048, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S2048x256 : Shape := ⟨2, ![2048, 256]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel3.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1x1024 : Shape := ⟨3, ![1, 1, 1024]⟩
abbrev S1024 : Shape := ⟨1, ![1024]⟩
abbrev S1x1024 : Shape := ⟨2, ![1, 1024]⟩
abbrev S2048x1024 : Shape := ⟨2, ![2048, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S2048x256 : Shape := ⟨2, ![2048, 256]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel4.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1x1024 : Shape := ⟨3, ![1, 1, 1024]⟩
abbrev S1024 : Shape := ⟨1, ![1024]⟩
abbrev S1x1024 : Shape := ⟨2, ![1, 1024]⟩
abbrev S2048x1024 : Shape := ⟨2, ![2048, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S2048x256 : Shape := ⟨2, ![2048, 256]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel5.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S1x1x1024 : Shape := ⟨3, ![1, 1, 1024]⟩
abbrev S1024 : Shape := ⟨1, ![1024]⟩
abbrev S1x1024 : Shape := ⟨2, ![1, 1024]⟩
abbrev S2048x1024 : Shape := ⟨2, ![2048, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S2048x256 : Shape := ⟨2, ![2048, 256]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S2x3x1024 : Shape := ⟨3, ![2, 3, 1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x2816x1024, .f32⟩
  | .hbm, ⟨3, _⟩ => ⟨S2x3x1024, .f32⟩
  | .hbm, ⟨4, _⟩ => ⟨S2x3x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.FfnMath.lean ====
/-
  The arithmetic of the feed-forward step over the extended reals: the two printed forms of the SwiGLU gate are one function, one
  token's row of the layer norm as a function of the row, and the hidden axis of 2816 read as eleven blocks of 256.
-/
module

public import Idealize.ShloMosaic.Lib.Pipeline.ValueKit

@[expose] public section

set_option maxRecDepth 16384

noncomputable section

namespace Cert.Ffn

open Idealize.ShloMosaic Finset

/-- The printed constant one half is one half. -/
theorem half_eq : Ideal.ofBits .f32 0x3F000000#32 = ((1 / 2 : ℝ) : EReal) := by
  simp [Ideal.ofBits, Ideal.ieee]
  rw [← EReal.coe_mul]
  norm_num

/-- The gate as the kernel computes it: the sigmoid through a hyperbolic tangent. -/
def gateK (g u : EReal) : EReal :=
  g * (Ideal.ofBits .f32 0x3F000000#32 * Ideal.tanh (Ideal.ofBits .f32 0x3F000000#32 * g) + Ideal.ofBits .f32 0x3F000000#32) * u

/-- The gate as the reference computes it: the sigmoid through an exponential. -/
def gateR (g u : EReal) : EReal := g * Ideal.div 1 (1 + Ideal.exp (-g)) * u

theorem sigmoid_real (r : ℝ) : 1 / 2 * Real.tanh (1 / 2 * r) + 1 / 2 = 1 / (1 + Real.exp (-r)) := by
  rw [Real.tanh_eq_sinh_div_cosh, Real.sinh_eq, Real.cosh_eq]
  have e1 : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = a at *
  generalize Real.exp (-(1 / 2 * r)) = b at *
  have hb : b = 1 / a := by field_simp; linarith
  subst hb
  field_simp
  ring

/-- The two forms of the gate are one function on the extended reals. -/
theorem gate_eq (g u : EReal) : gateK g u = gateR g u := by
  unfold gateK gateR
  rw [half_eq]
  congr 1
  induction g using EReal.rec with
  | bot =>
    have h : ((1 / 2 : ℝ) : EReal) * (⊥ : EReal) = ⊥ := EReal.coe_mul_bot_of_pos (by norm_num)
    rw [h, Ideal.tanh_bot, EReal.neg_bot, Ideal.exp_top]
    have h2 : ((1 / 2 : ℝ) : EReal) * (-1) + ((1 / 2 : ℝ) : EReal) = 0 := by
      rw [show (-1 : EReal) = ((-1 : ℝ) : EReal) by simp, ← EReal.coe_mul, ← EReal.coe_add]; norm_num
    have h3 : (1 : EReal) + ⊤ = ⊤ := EReal.add_top_of_ne_bot (EReal.coe_ne_bot 1)
    rw [h2, h3, Ideal.div]; simp
  | top =>
    have h : ((1 / 2 : ℝ) : EReal) * (⊤ : EReal) = ⊤ := EReal.coe_mul_top_of_pos (by norm_num)
    rw [h, Ideal.tanh_top, EReal.neg_top, Ideal.exp_bot]
    have h2 : ((1 / 2 : ℝ) : EReal) * 1 + ((1 / 2 : ℝ) : EReal) = 1 := by
      rw [mul_one, ← EReal.coe_add]; norm_num
    rw [h2, Ideal.div]; simp
  | coe r =>
    have h1 : (1 : EReal) + Ideal.exp (-(r : EReal)) = ((1 + Real.exp (-r) : ℝ) : EReal) := by
      rw [← EReal.coe_neg, Ideal.exp_coe]; simp
    have hp : (1 + Real.exp (-r)) ≠ 0 := by positivity
    rw [h1, Ideal.div_coe hp, ← EReal.coe_mul, Ideal.tanh_coe, ← EReal.coe_mul, ← EReal.coe_add, sigmoid_real]
    simp

/-- One entry of the layer norm of the row `v`, scaled by `γ` and shifted by `β`. -/
def lnRow (v : Fin 1024 → EReal) (γ β : EReal) (k : Fin 1024) : EReal :=
  (v k - Ideal.div (∑ j, v j) (Ideal.ofBits .f32 0x44800000#32))
    * Ideal.rsqrt (Ideal.div (∑ j, (v j - Ideal.div (∑ j, v j) (Ideal.ofBits .f32 0x44800000#32))
        * (v j - Ideal.div (∑ j, v j) (Ideal.ofBits .f32 0x44800000#32))) (Ideal.ofBits .f32 0x44800000#32)
      + Ideal.ofBits .f32 0x3727C5AC#32)
    * γ + β

/-- A hidden unit's gate and value projections of one row `x`, and what it adds to an output column of weight `d`. -/
def unitTerm (x g u : Fin 1024 → EReal) (d : EReal) : EReal :=
  gateK (∑ q, x q * g q) (∑ q, x q * u q) * d

/-- The residual row the layer norm is taken of: `√2 · x + ½ · y`. -/
def resid (x y : EReal) : EReal := Ideal.ofBits .f32 0x3FB504F3#32 * x + Ideal.ofBits .f32 0x3F000000#32 * y

/-- A function of the hidden unit's number, zero past the last unit. -/
def padded (f : Fin 2816 → EReal) (n : ℕ) : EReal := if h : n < 2816 then f ⟨n, h⟩ else 0

/-- Eleven blocks of 256 hidden units are the 2816 of them. -/
theorem sum_blocks (f : Fin 2816 → EReal) :
    ∑ p ∈ range 11, ∑ l : Fin 256, padded f (256 * p + l.val) = ∑ k, f k := by
  have h1 : ∀ p, ∑ l : Fin 256, padded f (256 * p + l.val) = ∑ l ∈ range 256, padded f (256 * p + l) := fun p =>
    Fin.sum_univ_eq_sum_range (fun l => padded f (256 * p + l)) 256
  simp only [h1]
  have h2 : ∀ n, ∑ p ∈ range n, ∑ l ∈ range 256, padded f (256 * p + l) = ∑ k ∈ range (256 * n), padded f k := by
    intro n
    induction n with
    | zero => simp
    | succ n ih => rw [sum_range_succ, ih, Nat.mul_succ, sum_range_add]
  rw [h2 11, ← Fin.sum_univ_eq_sum_range (padded f) 2816]
  exact sum_congr rfl fun k _ => by unfold padded; rw [dif_pos k.isLt]

end Cert.Ffn
-- ==== Proof.FfnStep.lean ====
module

public import proofs.«01_k».proof.Proof.Gen.Kernel2Ideal.Value
public import proofs.«01_k».proof.Proof.FfnMath
public import Idealize.ShloMosaic.Lib.Pipeline.ReadBack

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What one block of 256 hidden units adds at an output entry. -/
def blockTerm (x : S2048x1024.Idx → EReal) (wg wu : S1x1024x256.Idx → EReal) (wd : S1x256x1024.Idx → EReal) (y : S2048x1024.Idx) : EReal :=
  ∑ l : Fin 256, unitTerm (fun q => x (ix2 (y 0) q)) (fun q => wg (ix3 0 q l)) (fun q => wu (ix3 0 q l)) (wd (ix3 0 l (y 1)))

/-- The first point of a row block leaves the first block of hidden units in the output. -/
theorem outA (c : Dev nD) (t : Fin cfg0.N) (h0 : t.val % 11 = 0) (y : S2048x1024.Idx) :
    (outsAt0 m c t.val t.isLt).1 y = blockTerm (iblk m c 0 t) (iblk m c 1 t) (iblk m c 2 t) (iblk m c 3 t) y := by
  rw [outsAt0_A m c t h0 (by omega) (by omega)]
  frame_out
  unfold k0_pay3 k0_pay1
  pointwise
  rfl

/-- and the row block itself in the scratch. -/
theorem scrA (c : Dev nD) (t : Fin cfg0.N) (h0 : t.val % 11 = 0) (y : S2048x1024.Idx) :
    (outsAt0 m c t.val t.isLt).2 y = iblk m c 0 t y := by
  rw [outsAt0_A m c t h0 (by omega) (by omega)]
  frame_out
  unfold k0_pay2 k0_pay1
  pointwise

/-- The points between keep the scratch -/
theorem scrB (c : Dev nD) (t : Fin cfg0.N) (h1 : (1 ≤ t.val % 11 ∧ t.val % 11 ≤ 9)) :
    (outsAt0 m c t.val t.isLt).2 = (outsAt0 m c (t.val - 1) (Nat.lt_of_le_of_lt (Nat.sub_le _ _) t.isLt)).2 := by
  rw [outsAt0_B m c t (by omega) h1 (by omega)]
  rfl

/-- and add their block of hidden units to the output. -/
theorem outB (c : Dev nD) (t : Fin cfg0.N) (h1 : (1 ≤ t.val % 11 ∧ t.val % 11 ≤ 9)) (y : S2048x1024.Idx) :
    (outsAt0 m c t.val t.isLt).1 y = (outsAt0 m c (t.val - 1) (Nat.lt_of_le_of_lt (Nat.sub_le _ _) t.isLt)).1 (ix2 (y 0) (y 1))
      + blockTerm (outsAt0 m c (t.val - 1) (Nat.lt_of_le_of_lt (Nat.sub_le _ _) t.isLt)).2 (iblk m c 1 t) (iblk m c 2 t) (iblk m c 3 t) y := by
  rw [outsAt0_B m c t (by omega) h1 (by omega)]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    unfold blockTerm
    rw [e0, e1]
    refine congrArg₂ (· + ·) (congrArg _ ?_) rfl
    funext a
    match a with
    | ⟨0, _⟩ => exact e0.symm
    | ⟨1, _⟩ => exact e1.symm

/-- The last point adds its block, eight stores of 256 rows, and leaves the layer norm of the residual row. -/
theorem outC (c : Dev nD) (t : Fin cfg0.N) (h1 : t.val % 11 = 10) (y : S2048x1024.Idx) :
    (outsAt0 m c t.val t.isLt).1 y = lnRow (fun k => resid (iblk m c 0 t (ix2 (y 0) k)) ((outsAt0 m c (t.val - 1) (Nat.lt_of_le_of_lt (Nat.sub_le _ _) t.isLt)).1 (ix2 (y 0) k)
      + blockTerm (outsAt0 m c (t.val - 1) (Nat.lt_of_le_of_lt (Nat.sub_le _ _) t.isLt)).2 (iblk m c 1 t) (iblk m c 2 t) (iblk m c 3 t) (ix2 (y 0) k)))
      (iblk m c 4 t (ix2 0 (y 1))) (iblk m c 5 t (ix2 0 (y 1))) (y 1) := by
  rw [outsAt0_C m c t (by omega) (by omega) h1]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    rw [e0, e1]
    rfl

end Cert.Ffn
-- ==== Proof.FfnBlk.lean ====
module

public import proofs.«01_k».proof.Proof.Gen.Kernel2Ideal.Value
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 11, 0] ∧ win0_1.index t = ![1, 0, t.val % 11] ∧ win0_2.index t = ![1, 0, t.val % 11 + 11] ∧ win0_3.index t = ![1, t.val % 11, 0] ∧ win0_4.index t = ![0, 0] ∧ win0_5.index t = ![0, 0] :=
  (by decide +kernel : ∀ t : Fin grid0.N, _)

theorem iblk0 (c : Dev nD) (t : Fin cfg0.N) (r : Fin 2048) (k : Fin 1024) (i : Fin 16384) (hi : i.val = 2048 * (t.val / 11) + r.val) :
    iblk m c 0 t (ix2 r k) = m ((c : Thread nD τ).loc main_arg0) (ix2 i k) := by
  blk_ext [iblk, V, (idx0 t).1]

theorem iblk1 (c : Dev nD) (t : Fin cfg0.N) (k : Fin 1024) (l : Fin 256) (i : Fin 5632) (hi : i.val = 256 * (t.val % 11) + l.val) :
    iblk m c 1 t (ix3 0 k l) = m ((c : Thread nD τ).loc main_arg1) (ix3 1 k i) := by
  blk_ext [iblk, V, (idx0 t).2.1]

theorem iblk2 (c : Dev nD) (t : Fin cfg0.N) (k : Fin 1024) (l : Fin 256) (i : Fin 5632) (hi : i.val = 256 * (t.val % 11) + 2816 + l.val) :
    iblk m c 2 t (ix3 0 k l) = m ((c : Thread nD τ).loc main_arg1) (ix3 1 k i) := by
  blk_ext [iblk, V, (idx0 t).2.2.1]

theorem iblk3 (c : Dev nD) (t : Fin cfg0.N) (k : Fin 1024) (l : Fin 256) (i : Fin 2816) (hi : i.val = 256 * (t.val % 11) + l.val) :
    iblk m c 3 t (ix3 0 l k) = m ((c : Thread nD τ).loc main_arg2) (ix3 1 i k) := by
  blk_ext [iblk, V, (idx0 t).2.2.2.1]

theorem iblk4 (c : Dev nD) (t : Fin cfg0.N) (k : Fin 1024) :
    iblk m c 4 t (ix2 0 k) = m ((c : Thread nD τ).loc main_arg3) (ix3 1 2 k) := by
  unfold iblk
  blk_simp [(idx0 t).2.2.2.2.1]
  entry_read
  pointwise
  blk_ext [(idx0 t).2.2.2.2.1]

theorem iblk5 (c : Dev nD) (t : Fin cfg0.N) (k : Fin 1024) :
    iblk m c 5 t (ix2 0 k) = m ((c : Thread nD τ).loc main_arg4) (ix3 1 2 k) := by
  unfold iblk
  blk_simp [(idx0 t).2.2.2.2.2]
  entry_read
  pointwise
  blk_ext [(idx0 t).2.2.2.2.2]
end Cert.Ffn
-- ==== Proof.FfnValue.lean ====
module

public import proofs.«01_k».proof.Proof.Gen.Kernel2Ideal.Value
public import proofs.«01_k».proof.Proof.FfnMath
public import proofs.«01_k».proof.Proof.FfnStep
public import proofs.«01_k».proof.Proof.FfnBlk

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The kernel's arguments as plain tables: a token's row, a column of the first weight, a row of the second. -/
abbrev tokens (c : Dev nD) (i : Fin 16384) (q : Fin 1024) : EReal := m ((c : Thread nD τ).loc main_arg0) (ix2 i q)
abbrev wUp (c : Dev nD) (n : Fin 5632) (q : Fin 1024) : EReal := m ((c : Thread nD τ).loc main_arg1) (ix3 1 q n)
abbrev wDown (c : Dev nD) (n : Fin 2816) (o : Fin 1024) : EReal := m ((c : Thread nD τ).loc main_arg2) (ix3 1 n o)

/-- What hidden unit `n` adds to entry `(i, o)`. -/
def term (c : Dev nD) (i : Fin 16384) (o : Fin 1024) (n : Fin 2816) : EReal :=
  unitTerm (tokens m c i) (wUp m c ⟨n.val, by omega⟩) (wUp m c ⟨2816 + n.val, by omega⟩) (wDown m c n o)

theorem blockTerm_eq (c : Dev nD) (t : Fin cfg0.N) (S : S2048x1024.Idx → EReal) (r : Fin 2048) (o : Fin 1024) (i : Fin 16384)
    (hi : i.val = 2048 * (t.val / 11) + r.val) (hS : ∀ q, S (ix2 r q) = tokens m c i q) :
    blockTerm S (iblk m c 1 t) (iblk m c 2 t) (iblk m c 3 t) (ix2 r o)
      = ∑ l : Fin 256, padded (term m c i o) (256 * (t.val % 11) + l.val) := by
  unfold blockTerm
  refine Finset.sum_congr rfl fun l _ => ?_
  have hl := l.isLt
  have ht : t.val % 11 < 11 := Nat.mod_lt _ (by decide)
  unfold padded
  rw [dif_pos (by omega)]
  unfold term
  congr 1
  · funext q; exact hS q
  · funext q; exact iblk1 m c t q l _ rfl
  · funext q; exact iblk2 m c t q l _ (by simp only; omega)
  · exact iblk3 m c t o l _ rfl

/-- After point `t` of a row block, not its last: the scratch holds the block's rows, the output the hidden units so far. -/
theorem running (c : Dev nD) : ∀ (j : ℕ) (hj : j ≤ 9) (t : Fin cfg0.N) (ht : t.val % 11 = j) (r : Fin 2048) (i : Fin 16384)
    (hi : i.val = 2048 * (t.val / 11) + r.val),
    (∀ q, (outsAt0 m c t.val t.isLt).2 (ix2 r q) = tokens m c i q)
    ∧ ∀ o, (outsAt0 m c t.val t.isLt).1 (ix2 r o)
        = ∑ p ∈ Finset.range (j + 1), ∑ l : Fin 256, padded (term m c i o) (256 * p + l.val) := by
  intro j
  induction j with
  | zero =>
    intro _ t ht r i hi
    refine ⟨fun q => ?_, fun o => ?_⟩
    · rw [scrA m c t ht]; exact iblk0 m c t r q i hi
    · rw [outA m c t ht, blockTerm_eq m c t _ r o i hi (fun q => iblk0 m c t r q i hi), ht]
      simp
  | succ j ih =>
    intro hj t ht r i hi
    have h1 : 1 ≤ t.val % 11 ∧ t.val % 11 ≤ 9 := by omega
    obtain ⟨hs, ho⟩ := ih (by omega) ⟨t.val - 1, Nat.lt_of_le_of_lt (Nat.sub_le _ _) t.isLt⟩ (by simp only; omega) r i
      (by simp only; omega)
    refine ⟨fun q => ?_, fun o => ?_⟩
    · rw [scrB m c t h1]; exact hs q
    · rw [outB m c t h1, blockTerm_eq m c t _ r o i hi hs, Finset.sum_range_succ, ht]
      congr 1
      exact ho o

/-- What the result holds at each entry. -/
def result (c : Dev nD) : S16384x1024.Idx → EReal := fun y =>
  lnRow (fun k => resid (tokens m c (y 0) k) (∑ n, term m c (y 0) k n))
    (m ((c : Thread nD τ).loc main_arg3) (ix3 1 2 (y 1))) (m ((c : Thread nD τ).loc main_arg4) (ix3 1 2 (y 1))) (y 1)

/-- The last point of a row block leaves the result's rows. -/
theorem last (c : Dev nD) (t : Fin cfg0.N) (ht : t.val % 11 = 10) (r : Fin 2048) (o : Fin 1024) (i : Fin 16384)
    (hi : i.val = 2048 * (t.val / 11) + r.val) :
    (outsAt0 m c t.val t.isLt).1 (ix2 r o) = result m c (ix2 i o) := by
  obtain ⟨hs, ho⟩ := running m c 9 le_rfl ⟨t.val - 1, Nat.lt_of_le_of_lt (Nat.sub_le _ _) t.isLt⟩ (by simp only; omega) r i
    (by simp only; omega)
  rw [outC m c t ht]
  unfold result
  have e : (fun k => resid (iblk m c 0 t (ix2 r k)) ((outsAt0 m c (t.val - 1) (Nat.lt_of_le_of_lt (Nat.sub_le _ _) t.isLt)).1 (ix2 r k)
      + blockTerm (outsAt0 m c (t.val - 1) (Nat.lt_of_le_of_lt (Nat.sub_le _ _) t.isLt)).2 (iblk m c 1 t) (iblk m c 2 t) (iblk m c 3 t) (ix2 r k)))
      = fun k => resid (tokens m c i k) (∑ n, term m c i k n) := by
    funext k
    rw [iblk0 m c t r k i hi, ← sum_blocks (term m c i k), Finset.sum_range_succ _ 10]
    congr 2
    · exact ho k
    · rw [blockTerm_eq m c t _ r k i hi hs, ht]
  exact congr (congr (congr (congrArg lnRow e) (iblk4 m c t o)) (iblk5 m c t o)) rfl

/-- The result array after the run. -/
theorem final (c : Dev nD) : (dats m 0 c).arrAt 6 (cfgs 0).N = result m c := by
  refine (dats m 0 c).arrAt_eq_of_covers 6 _ (by decide +kernel) fun t hf y => ?_
  have hm : t.val % 11 = 10 := (flush0_6 t).mp hf
  have hN : t.val < 88 := lt_of_lt_of_eq t.isLt N_0
  have hx : win0_6.index t = ![t.val / 11, 0] := (by decide +kernel : ∀ t : Fin grid0.N, win0_6.index t = ![t.val / 11, 0]) t
  rw [after0_6]
  have hy0 : (y 0).val < 2048 := (y 0).isLt
  have hy1 : (y 1).val < 1024 := (y 1).isLt
  refine Eq.trans ?_ ((last m c t hm ⟨(y 0).val, hy0⟩ ⟨(y 1).val, hy1⟩ ⟨2048 * (t.val / 11) + (y 0).val, by omega⟩ rfl).trans ?_)
  · show (outsAt0 m c t.val t.isLt).1 _ = _
    refine congrArg _ (funext fun a => ?_)
    match a with
    | ⟨0, _⟩ => rfl
    | ⟨1, _⟩ => rfl
  · refine congrArg (result m c) (funext fun a => Fin.ext ?_)
    match a with
    | ⟨0, _⟩ =>
      show 2048 * (t.val / 11) + (y 0).val = win0_6.index t (0 : Fin 2) * 2048 + 1 * (y 0).val
      rw [hx]; simp only [Matrix.cons_val_zero]; omega
    | ⟨1, _⟩ =>
      show (y 1).val = win0_6.index t (1 : Fin 2) * 1024 + 1 * (y 1).val
      rw [hx]; simp only [Matrix.cons_val_one, Matrix.cons_val_zero]; omega

end Cert.Ffn
-- ==== Proof.FfnRef.lean ====
module

public import proofs.«01_k».proof.Proof.Gen.Reference2Ideal.Run
public import proofs.«01_k».proof.Proof.FfnMath

@[expose] public section

set_option maxRecDepth 16384

noncomputable section

namespace Cert.Ffn

open Idealize.ShloMosaic Idealize.ShloMosaic.TcCoe Idealize.SL.Sem

/-- The reference's tokens. -/
abbrev rTok (m : (ℓ : Loc Reference2Ideal.nD Reference2Ideal.τ Reference2Ideal.sig) → Buf (Elt Ideal) ℓ) (c : Dev Reference2Ideal.nD) :
    Reference2Ideal.S16384x1024.Idx → EReal := m (c.tc.loc Reference2Ideal.main_arg0)
/-- Its up and gate projection. -/
abbrev rUp (m : (ℓ : Loc Reference2Ideal.nD Reference2Ideal.τ Reference2Ideal.sig) → Buf (Elt Ideal) ℓ) (c : Dev Reference2Ideal.nD) :
    Reference2Ideal.S2x1024x5632.Idx → EReal := m (c.tc.loc Reference2Ideal.main_arg1)
/-- Its down projection. -/
abbrev rDown (m : (ℓ : Loc Reference2Ideal.nD Reference2Ideal.τ Reference2Ideal.sig) → Buf (Elt Ideal) ℓ) (c : Dev Reference2Ideal.nD) :
    Reference2Ideal.S2x2816x1024.Idx → EReal := m (c.tc.loc Reference2Ideal.main_arg2)

/-- The reference's result at an entry: the layer norm of the residual row, its gate the reference's. -/
theorem ref_apply (m : (ℓ : Loc Reference2Ideal.nD Reference2Ideal.τ Reference2Ideal.sig) → Buf (Elt Ideal) ℓ) (c : Dev Reference2Ideal.nD)
    (i : Fin 16384) (o : Fin 1024) :
    Reference2Ideal.Value.res_main_v42 m c (ix2 i o)
      = lnRow (fun k => resid (rTok m c (ix2 i k))
          (∑ n : Fin 2816, gateR
              (∑ q : Fin 1024, rTok m c (ix2 i q) * rUp m c (ix3 1 q ⟨n.val, by omega⟩))
              (∑ q : Fin 1024, rTok m c (ix2 i q) * rUp m c (ix3 1 q ⟨2816 + n.val, by omega⟩))
            * rDown m c (ix3 1 n k)))
        (m (c.tc.loc Reference2Ideal.main_arg3) (ix3 1 2 o)) (m (c.tc.loc Reference2Ideal.main_arg4) (ix3 1 2 o)) o := by
  unfold Reference2Ideal.Value.res_main_v42
  pointwise
  rfl

end Cert.Ffn
-- ==== Proof.FfnClaim.lean ====
/-
  The feed-forward step's value claim: the kernel's result array and the reference's are one function of the arguments.
-/
module

public import proofs.«01_k».proof.Defs
public import proofs.«01_k».proof.Proof.FfnValue
public import proofs.«01_k».proof.Proof.FfnRef

@[expose] public section

set_option maxRecDepth 16384

noncomputable section

namespace Cert.Ffn

open Idealize.ShloMosaic Idealize.ShloMosaic.TcCoe Idealize.SL.Sem

/-- The kernel's run, its result named. -/
theorem run_kernel (m : (ℓ : Loc Kernel2Ideal.nD Kernel2Ideal.τ Kernel2Ideal.sig) → Buf (Elt Ideal) ℓ) (ρ : Dev Kernel2Ideal.nD → PrngReg) :
    θ_run Kernel2Ideal.defs (onTc (τ := Kernel2Ideal.τ) (Kernel2Ideal.main (F := Ideal))) ⟨m, fun _ => 0, ρ⟩ fun r => ∀ c : Dev Kernel2Ideal.nD,
      r.2.mem ((c : Thread Kernel2Ideal.nD Kernel2Ideal.τ).loc Kernel2Ideal.main_v6) = result m c
      ∧ r.2.mem ((c : Thread Kernel2Ideal.nD Kernel2Ideal.τ).loc Kernel2Ideal.main_arg0) = m ((c : Thread Kernel2Ideal.nD Kernel2Ideal.τ).loc Kernel2Ideal.main_arg0)
      ∧ r.2.mem ((c : Thread Kernel2Ideal.nD Kernel2Ideal.τ).loc Kernel2Ideal.main_arg1) = m ((c : Thread Kernel2Ideal.nD Kernel2Ideal.τ).loc Kernel2Ideal.main_arg1)
      ∧ r.2.mem ((c : Thread Kernel2Ideal.nD Kernel2Ideal.τ).loc Kernel2Ideal.main_arg2) = m ((c : Thread Kernel2Ideal.nD Kernel2Ideal.τ).loc Kernel2Ideal.main_arg2)
      ∧ r.2.mem ((c : Thread Kernel2Ideal.nD Kernel2Ideal.τ).loc Kernel2Ideal.main_arg3) = m ((c : Thread Kernel2Ideal.nD Kernel2Ideal.τ).loc Kernel2Ideal.main_arg3)
      ∧ r.2.mem ((c : Thread Kernel2Ideal.nD Kernel2Ideal.τ).loc Kernel2Ideal.main_arg4) = m ((c : Thread Kernel2Ideal.nD Kernel2Ideal.τ).loc Kernel2Ideal.main_arg4) :=
  (θ_run Kernel2Ideal.defs _ _).mono (fun _ h c => ⟨(h c).1.trans (final m c), (h c).2⟩) (Kernel2Ideal.Value.run_blocks m ρ)

/-- On agreeing arguments the reference's entries are the kernel's. -/
theorem ref_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4)) :
    Reference2Ideal.Value.res_main_v42 m' c = result m c := by
  funext y
  have e : y = ix2 (y 0) (y 1) := funext fun a => match a with | ⟨0, _⟩ => rfl | ⟨1, _⟩ => rfl
  rw [e]
  refine (ref_apply m' c (y 0) (y 1)).trans ?_
  unfold result term unitTerm rTok rUp rDown
  simp only [gate_eq]
  rw [h0, h1, h2, h3, h4]
  rfl

theorem algebraic_ffn : Cert.algebraic_Kernel2Ideal_Reference2Ideal := by
  intro m ρ m' ρ' _ hag
  refine ⟨fun c => result m c, run_kernel m ρ, (θ_run Reference2Ideal.defs _ _).mono (fun _ h c => ⟨(h c).1.trans ?_, (h c).2⟩) (Reference2Ideal.Value.run m' ρ')⟩
  obtain ⟨h0, h1, h2, h3, h4⟩ := hag c
  exact ref_eq m m' c h0 h1 h2 h3 h4

end Cert.Ffn
-- ==== Proof.FfnStep3.lean ====
module

public import proofs.«01_k».proof.Proof.Gen.Kernel3Ideal.Value
public import proofs.«01_k».proof.Proof.FfnMath
public import Idealize.ShloMosaic.Lib.Pipeline.ReadBack

@[expose] public section

set_option maxRecDepth 16384

noncomputable section

namespace Cert.Ffn3

open Cert.Ffn Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- What one block of 256 hidden units adds at an output entry. -/
def blockTerm (x : S2048x1024.Idx → EReal) (wg wu : S1x1024x256.Idx → EReal) (wd : S1x256x1024.Idx → EReal) (y : S2048x1024.Idx) : EReal :=
  ∑ l : Fin 256, unitTerm (fun q => x (ix2 (y 0) q)) (fun q => wg (ix3 0 q l)) (fun q => wu (ix3 0 q l)) (wd (ix3 0 l (y 1)))

/-- The first point of a row block leaves the first block of hidden units in the output. -/
theorem outA (c : Dev nD) (t : Fin cfg0.N) (h0 : t.val % 11 = 0) (y : S2048x1024.Idx) :
    (outsAt0 m c t.val t.isLt).1 y = blockTerm (iblk m c 0 t) (iblk m c 1 t) (iblk m c 2 t) (iblk m c 3 t) y := by
  rw [outsAt0_A m c t h0 (by omega) (by omega)]
  frame_out
  unfold k0_pay3 k0_pay1
  pointwise
  rfl

/-- and the row block itself in the scratch. -/
theorem scrA (c : Dev nD) (t : Fin cfg0.N) (h0 : t.val % 11 = 0) (y : S2048x1024.Idx) :
    (outsAt0 m c t.val t.isLt).2 y = iblk m c 0 t y := by
  rw [outsAt0_A m c t h0 (by omega) (by omega)]
  frame_out
  unfold k0_pay2 k0_pay1
  pointwise

/-- The points between keep the scratch -/
theorem scrB (c : Dev nD) (t : Fin cfg0.N) (h1 : (1 ≤ t.val % 11 ∧ t.val % 11 ≤ 9)) :
    (outsAt0 m c t.val t.isLt).2 = (outsAt0 m c (t.val - 1) (Nat.lt_of_le_of_lt (Nat.sub_le _ _) t.isLt)).2 := by
  rw [outsAt0_B m c t (by omega) h1 (by omega)]
  rfl

/-- and add their block of hidden units to the output. -/
theorem outB (c : Dev nD) (t : Fin cfg0.N) (h1 : (1 ≤ t.val % 11 ∧ t.val % 11 ≤ 9)) (y : S2048x1024.Idx) :
    (outsAt0 m c t.val t.isLt).1 y = (outsAt0 m c (t.val - 1) (Nat.lt_of_le_of_lt (Nat.sub_le _ _) t.isLt)).1 (ix2 (y 0) (y 1))
      + blockTerm (outsAt0 m c (t.val - 1) (Nat.lt_of_le_of_lt (Nat.sub_le _ _) t.isLt)).2 (iblk m c 1 t) (iblk m c 2 t) (iblk m c 3 t) y := by
  rw [outsAt0_B m c t (by omega) h1 (by omega)]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    unfold blockTerm
    rw [e0, e1]
    refine congrArg₂ (· + ·) (congrArg _ ?_) rfl
    funext a
    match a with
    | ⟨0, _⟩ => exact e0.symm
    | ⟨1, _⟩ => exact e1.symm

/-- The last point adds its block, eight stores of 256 rows, and leaves the layer norm of the residual row. -/
theorem outC (c : Dev nD) (t : Fin cfg0.N) (h1 : t.val % 11 = 10) (y : S2048x1024.Idx) :
    (outsAt0 m c t.val t.isLt).1 y = lnRow (fun k => resid (iblk m c 0 t (ix2 (y 0) k)) ((outsAt0 m c (t.val - 1) (Nat.lt_of_le_of_lt (Nat.sub_le _ _) t.isLt)).1 (ix2 (y 0) k)
      + blockTerm (outsAt0 m c (t.val - 1) (Nat.lt_of_le_of_lt (Nat.sub_le _ _) t.isLt)).2 (iblk m c 1 t) (iblk m c 2 t) (iblk m c 3 t) (ix2 (y 0) k)))
      (iblk m c 4 t (ix2 0 (y 1))) (iblk m c 5 t (ix2 0 (y 1))) (y 1) := by
  rw [outsAt0_C m c t (by omega) (by omega) h1]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    rw [e0, e1]
    rfl

end Cert.Ffn3
-- ==== Proof.FfnBlk3.lean ====
module

public import proofs.«01_k».proof.Proof.Gen.Kernel3Ideal.Value
public import Idealize.ShloMosaic.Lib.Pipeline.ValueKit

@[expose] public section

set_option maxRecDepth 16384

noncomputable section

namespace Cert.Ffn3

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 11, 0] ∧ win0_1.index t = ![1, 0, t.val % 11] ∧ win0_2.index t = ![1, 0, t.val % 11 + 11] ∧ win0_3.index t = ![1, t.val % 11, 0] ∧ win0_4.index t = ![0, 0] ∧ win0_5.index t = ![0, 0] :=
  (by decide +kernel : ∀ t : Fin grid0.N, _)

theorem iblk0 (c : Dev nD) (t : Fin cfg0.N) (r : Fin 2048) (k : Fin 1024) (i : Fin 16384) (hi : i.val = 2048 * (t.val / 11) + r.val) :
    iblk m c 0 t (ix2 r k) = m ((c : Thread nD τ).loc main_arg0) (ix2 i k) := by
  blk_ext [iblk, V, (idx0 t).1]

theorem iblk1 (c : Dev nD) (t : Fin cfg0.N) (k : Fin 1024) (l : Fin 256) (i : Fin 5632) (hi : i.val = 256 * (t.val % 11) + l.val) :
    iblk m c 1 t (ix3 0 k l) = m ((c : Thread nD τ).loc main_arg1) (ix3 1 k i) := by
  blk_ext [iblk, V, (idx0 t).2.1]

theorem iblk2 (c : Dev nD) (t : Fin cfg0.N) (k : Fin 1024) (l : Fin 256) (i : Fin 5632) (hi : i.val = 256 * (t.val % 11) + 2816 + l.val) :
    iblk m c 2 t (ix3 0 k l) = m ((c : Thread nD τ).loc main_arg1) (ix3 1 k i) := by
  blk_ext [iblk, V, (idx0 t).2.2.1]

theorem iblk3 (c : Dev nD) (t : Fin cfg0.N) (k : Fin 1024) (l : Fin 256) (i : Fin 2816) (hi : i.val = 256 * (t.val % 11) + l.val) :
    iblk m c 3 t (ix3 0 l k) = m ((c : Thread nD τ).loc main_arg2) (ix3 1 i k) := by
  blk_ext [iblk, V, (idx0 t).2.2.2.1]

theorem iblk4 (c : Dev nD) (t : Fin cfg0.N) (k : Fin 1024) :
    iblk m c 4 t (ix2 0 k) = m ((c : Thread nD τ).loc main_arg3) (ix3 1 0 k) := by
  unfold iblk
  blk_simp [(idx0 t).2.2.2.2.1]
  entry_read
  pointwise
  blk_ext [(idx0 t).2.2.2.2.1]

theorem iblk5 (c : Dev nD) (t : Fin cfg0.N) (k : Fin 1024) :
    iblk m c 5 t (ix2 0 k) = m ((c : Thread nD τ).loc main_arg4) (ix3 1 0 k) := by
  unfold iblk
  blk_simp [(idx0 t).2.2.2.2.2]
  entry_read
  pointwise
  blk_ext [(idx0 t).2.2.2.2.2]
end Cert.Ffn3
-- ==== Proof.FfnValue3.lean ====
module

public import proofs.«01_k».proof.Proof.Gen.Kernel3Ideal.Value
public import proofs.«01_k».proof.Proof.FfnMath
public import proofs.«01_k».proof.Proof.FfnStep3
public import proofs.«01_k».proof.Proof.FfnBlk3

@[expose] public section

set_option maxRecDepth 16384

noncomputable section

namespace Cert.Ffn3

open Cert.Ffn Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The kernel's arguments as plain tables: a token's row, a column of the first weight, a row of the second. -/
abbrev tokens (c : Dev nD) (i : Fin 16384) (q : Fin 1024) : EReal := m ((c : Thread nD τ).loc main_arg0) (ix2 i q)
abbrev wUp (c : Dev nD) (n : Fin 5632) (q : Fin 1024) : EReal := m ((c : Thread nD τ).loc main_arg1) (ix3 1 q n)
abbrev wDown (c : Dev nD) (n : Fin 2816) (o : Fin 1024) : EReal := m ((c : Thread nD τ).loc main_arg2) (ix3 1 n o)

/-- What hidden unit `n` adds to entry `(i, o)`. -/
def term (c : Dev nD) (i : Fin 16384) (o : Fin 1024) (n : Fin 2816) : EReal :=
  unitTerm (tokens m c i) (wUp m c ⟨n.val, by omega⟩) (wUp m c ⟨2816 + n.val, by omega⟩) (wDown m c n o)

theorem blockTerm_eq (c : Dev nD) (t : Fin cfg0.N) (S : S2048x1024.Idx → EReal) (r : Fin 2048) (o : Fin 1024) (i : Fin 16384)
    (hi : i.val = 2048 * (t.val / 11) + r.val) (hS : ∀ q, S (ix2 r q) = tokens m c i q) :
    blockTerm S (iblk m c 1 t) (iblk m c 2 t) (iblk m c 3 t) (ix2 r o)
      = ∑ l : Fin 256, padded (term m c i o) (256 * (t.val % 11) + l.val) := by
  unfold blockTerm
  refine Finset.sum_congr rfl fun l _ => ?_
  have hl := l.isLt
  have ht : t.val % 11 < 11 := Nat.mod_lt _ (by decide)
  unfold padded
  rw [dif_pos (by omega)]
  unfold term
  congr 1
  · funext q; exact hS q
  · funext q; exact iblk1 m c t q l _ rfl
  · funext q; exact iblk2 m c t q l _ (by simp only; omega)
  · exact iblk3 m c t o l _ rfl

/-- After point `t` of a row block, not its last: the scratch holds the block's rows, the output the hidden units so far. -/
theorem running (c : Dev nD) : ∀ (j : ℕ) (hj : j ≤ 9) (t : Fin cfg0.N) (ht : t.val % 11 = j) (r : Fin 2048) (i : Fin 16384)
    (hi : i.val = 2048 * (t.val / 11) + r.val),
    (∀ q, (outsAt0 m c t.val t.isLt).2 (ix2 r q) = tokens m c i q)
    ∧ ∀ o, (outsAt0 m c t.val t.isLt).1 (ix2 r o)
        = ∑ p ∈ Finset.range (j + 1), ∑ l : Fin 256, padded (term m c i o) (256 * p + l.val) := by
  intro j
  induction j with
  | zero =>
    intro _ t ht r i hi
    refine ⟨fun q => ?_, fun o => ?_⟩
    · rw [scrA m c t ht]; exact iblk0 m c t r q i hi
    · rw [outA m c t ht, blockTerm_eq m c t _ r o i hi (fun q => iblk0 m c t r q i hi), ht]
      simp
  | succ j ih =>
    intro hj t ht r i hi
    have h1 : 1 ≤ t.val % 11 ∧ t.val % 11 ≤ 9 := by omega
    obtain ⟨hs, ho⟩ := ih (by omega) ⟨t.val - 1, Nat.lt_of_le_of_lt (Nat.sub_le _ _) t.isLt⟩ (by simp only; omega) r i
      (by simp only; omega)
    refine ⟨fun q => ?_, fun o => ?_⟩
    · rw [scrB m c t h1]; exact hs q
    · rw [outB m c t h1, blockTerm_eq m c t _ r o i hi hs, Finset.sum_range_succ, ht]
      congr 1
      exact ho o

/-- What the result holds at each entry. -/
def result (c : Dev nD) : S16384x1024.Idx → EReal := fun y =>
  lnRow (fun k => resid (tokens m c (y 0) k) (∑ n, term m c (y 0) k n))
    (m ((c : Thread nD τ).loc main_arg3) (ix3 1 0 (y 1))) (m ((c : Thread nD τ).loc main_arg4) (ix3 1 0 (y 1))) (y 1)

/-- The last point of a row block leaves the result's rows. -/
theorem last (c : Dev nD) (t : Fin cfg0.N) (ht : t.val % 11 = 10) (r : Fin 2048) (o : Fin 1024) (i : Fin 16384)
    (hi : i.val = 2048 * (t.val / 11) + r.val) :
    (outsAt0 m c t.val t.isLt).1 (ix2 r o) = result m c (ix2 i o) := by
  obtain ⟨hs, ho⟩ := running m c 9 le_rfl ⟨t.val - 1, Nat.lt_of_le_of_lt (Nat.sub_le _ _) t.isLt⟩ (by simp only; omega) r i
    (by simp only; omega)
  rw [outC m c t ht]
  unfold result
  have e : (fun k => resid (iblk m c 0 t (ix2 r k)) ((outsAt0 m c (t.val - 1) (Nat.lt_of_le_of_lt (Nat.sub_le _ _) t.isLt)).1 (ix2 r k)
      + blockTerm (outsAt0 m c (t.val - 1) (Nat.lt_of_le_of_lt (Nat.sub_le _ _) t.isLt)).2 (iblk m c 1 t) (iblk m c 2 t) (iblk m c 3 t) (ix2 r k)))
      = fun k => resid (tokens m c i k) (∑ n, term m c i k n) := by
    funext k
    rw [iblk0 m c t r k i hi, ← sum_blocks (term m c i k), Finset.sum_range_succ _ 10]
    congr 2
    · exact ho k
    · rw [blockTerm_eq m c t _ r k i hi hs, ht]
  exact congr (congr (congr (congrArg lnRow e) (iblk4 m c t o)) (iblk5 m c t o)) rfl

/-- The result array after the run. -/
theorem final (c : Dev nD) : (dats m 0 c).arrAt 6 (cfgs 0).N = result m c := by
  refine (dats m 0 c).arrAt_eq_of_covers 6 _ (by decide +kernel) fun t hf y => ?_
  have hm : t.val % 11 = 10 := (flush0_6 t).mp hf
  have hN : t.val < 88 := lt_of_lt_of_eq t.isLt N_0
  have hx : win0_6.index t = ![t.val / 11, 0] := (by decide +kernel : ∀ t : Fin grid0.N, win0_6.index t = ![t.val / 11, 0]) t
  rw [after0_6]
  have hy0 : (y 0).val < 2048 := (y 0).isLt
  have hy1 : (y 1).val < 1024 := (y 1).isLt
  refine Eq.trans ?_ ((last m c t hm ⟨(y 0).val, hy0⟩ ⟨(y 1).val, hy1⟩ ⟨2048 * (t.val / 11) + (y 0).val, by omega⟩ rfl).trans ?_)
  · show (outsAt0 m c t.val t.isLt).1 _ = _
    refine congrArg _ (funext fun a => ?_)
    match a with
    | ⟨0, _⟩ => rfl
    | ⟨1, _⟩ => rfl
  · refine congrArg (result m c) (funext fun a => Fin.ext ?_)
    match a with
    | ⟨0, _⟩ =>
      show 2048 * (t.val / 11) + (y 0).val = win0_6.index t (0 : Fin 2) * 2048 + 1 * (y 0).val
      rw [hx]; simp only [Matrix.cons_val_zero]; omega
    | ⟨1, _⟩ =>
      show (y 1).val = win0_6.index t (1 : Fin 2) * 1024 + 1 * (y 1).val
      rw [hx]; simp only [Matrix.cons_val_one, Matrix.cons_val_zero]; omega

end Cert.Ffn3
-- ==== Proof.FfnRef3.lean ====
module

public import proofs.«01_k».proof.Proof.Gen.Reference3Ideal.Run
public import proofs.«01_k».proof.Proof.FfnMath

@[expose] public section

set_option maxRecDepth 16384

noncomputable section

namespace Cert.Ffn3

open Cert.Ffn Idealize.ShloMosaic Idealize.ShloMosaic.TcCoe Idealize.SL.Sem

/-- The reference's tokens. -/
abbrev rTok (m : (ℓ : Loc Reference3Ideal.nD Reference3Ideal.τ Reference3Ideal.sig) → Buf (Elt Ideal) ℓ) (c : Dev Reference3Ideal.nD) :
    Reference3Ideal.S16384x1024.Idx → EReal := m (c.tc.loc Reference3Ideal.main_arg0)
/-- Its up and gate projection. -/
abbrev rUp (m : (ℓ : Loc Reference3Ideal.nD Reference3Ideal.τ Reference3Ideal.sig) → Buf (Elt Ideal) ℓ) (c : Dev Reference3Ideal.nD) :
    Reference3Ideal.S2x1024x5632.Idx → EReal := m (c.tc.loc Reference3Ideal.main_arg1)
/-- Its down projection. -/
abbrev rDown (m : (ℓ : Loc Reference3Ideal.nD Reference3Ideal.τ Reference3Ideal.sig) → Buf (Elt Ideal) ℓ) (c : Dev Reference3Ideal.nD) :
    Reference3Ideal.S2x2816x1024.Idx → EReal := m (c.tc.loc Reference3Ideal.main_arg2)

/-- The reference's result at an entry: the layer norm of the residual row, its gate the reference's. -/
theorem ref_apply (m : (ℓ : Loc Reference3Ideal.nD Reference3Ideal.τ Reference3Ideal.sig) → Buf (Elt Ideal) ℓ) (c : Dev Reference3Ideal.nD)
    (i : Fin 16384) (o : Fin 1024) :
    Reference3Ideal.Value.res_main_v42 m c (ix2 i o)
      = lnRow (fun k => resid (rTok m c (ix2 i k))
          (∑ n : Fin 2816, gateR
              (∑ q : Fin 1024, rTok m c (ix2 i q) * rUp m c (ix3 1 q ⟨n.val, by omega⟩))
              (∑ q : Fin 1024, rTok m c (ix2 i q) * rUp m c (ix3 1 q ⟨2816 + n.val, by omega⟩))
            * rDown m c (ix3 1 n k)))
        (m (c.tc.loc Reference3Ideal.main_arg3) (ix3 1 0 o)) (m (c.tc.loc Reference3Ideal.main_arg4) (ix3 1 0 o)) o := by
  unfold Reference3Ideal.Value.res_main_v42
  pointwise
  rfl

end Cert.Ffn3
-- ==== Proof.FfnClaim3.lean ====
/-
  The feed-forward step's value claim: the kernel's result array and the reference's are one function of the arguments.
-/
module

public import proofs.«01_k».proof.Defs
public import proofs.«01_k».proof.Proof.FfnValue3
public import proofs.«01_k».proof.Proof.FfnRef3

@[expose] public section

set_option maxRecDepth 16384

noncomputable section

namespace Cert.Ffn3

open Cert.Ffn Idealize.ShloMosaic Idealize.ShloMosaic.TcCoe Idealize.SL.Sem

/-- The kernel's run, its result named. -/
theorem run_kernel (m : (ℓ : Loc Kernel3Ideal.nD Kernel3Ideal.τ Kernel3Ideal.sig) → Buf (Elt Ideal) ℓ) (ρ : Dev Kernel3Ideal.nD → PrngReg) :
    θ_run Kernel3Ideal.defs (onTc (τ := Kernel3Ideal.τ) (Kernel3Ideal.main (F := Ideal))) ⟨m, fun _ => 0, ρ⟩ fun r => ∀ c : Dev Kernel3Ideal.nD,
      r.2.mem ((c : Thread Kernel3Ideal.nD Kernel3Ideal.τ).loc Kernel3Ideal.main_v6) = result m c
      ∧ r.2.mem ((c : Thread Kernel3Ideal.nD Kernel3Ideal.τ).loc Kernel3Ideal.main_arg0) = m ((c : Thread Kernel3Ideal.nD Kernel3Ideal.τ).loc Kernel3Ideal.main_arg0)
      ∧ r.2.mem ((c : Thread Kernel3Ideal.nD Kernel3Ideal.τ).loc Kernel3Ideal.main_arg1) = m ((c : Thread Kernel3Ideal.nD Kernel3Ideal.τ).loc Kernel3Ideal.main_arg1)
      ∧ r.2.mem ((c : Thread Kernel3Ideal.nD Kernel3Ideal.τ).loc Kernel3Ideal.main_arg2) = m ((c : Thread Kernel3Ideal.nD Kernel3Ideal.τ).loc Kernel3Ideal.main_arg2)
      ∧ r.2.mem ((c : Thread Kernel3Ideal.nD Kernel3Ideal.τ).loc Kernel3Ideal.main_arg3) = m ((c : Thread Kernel3Ideal.nD Kernel3Ideal.τ).loc Kernel3Ideal.main_arg3)
      ∧ r.2.mem ((c : Thread Kernel3Ideal.nD Kernel3Ideal.τ).loc Kernel3Ideal.main_arg4) = m ((c : Thread Kernel3Ideal.nD Kernel3Ideal.τ).loc Kernel3Ideal.main_arg4) :=
  (θ_run Kernel3Ideal.defs _ _).mono (fun _ h c => ⟨(h c).1.trans (final m c), (h c).2⟩) (Kernel3Ideal.Value.run_blocks m ρ)

/-- On agreeing arguments the reference's entries are the kernel's. -/
theorem ref_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3))
    (h4 : m' ((c.tc : Thread Reference3Ideal.nD Reference3Ideal.τ).loc Reference3Ideal.main_arg4) = m ((c.tc : Thread Kernel3Ideal.nD Kernel3Ideal.τ).loc Kernel3Ideal.main_arg4)) :
    Reference3Ideal.Value.res_main_v42 m' c = result m c := by
  funext y
  have e : y = ix2 (y 0) (y 1) := funext fun a => match a with | ⟨0, _⟩ => rfl | ⟨1, _⟩ => rfl
  rw [e]
  refine (ref_apply m' c (y 0) (y 1)).trans ?_
  unfold result term unitTerm rTok rUp rDown
  simp only [gate_eq]
  rw [h0, h1, h2, h3, h4]
  rfl

theorem algebraic_ffn3 : Cert.algebraic_Kernel3Ideal_Reference3Ideal := by
  intro m ρ m' ρ' _ hag
  refine ⟨fun c => result m c, run_kernel m ρ, (θ_run Reference3Ideal.defs _ _).mono (fun _ h c => ⟨(h c).1.trans ?_, (h c).2⟩) (Reference3Ideal.Value.run m' ρ')⟩
  obtain ⟨h0, h1, h2, h3, h4⟩ := hag c
  exact ref_eq m m' c h0 h1 h2 h3 h4

end Cert.Ffn3
-- ==== Proof.FfnStep4.lean ====
module

public import proofs.«01_k».proof.Proof.Gen.Kernel4Ideal.Value
public import proofs.«01_k».proof.Proof.FfnMath
public import Idealize.ShloMosaic.Lib.Pipeline.ReadBack

@[expose] public section

set_option maxRecDepth 16384

noncomputable section

namespace Cert.Ffn4

open Cert.Ffn Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- What one block of 256 hidden units adds at an output entry. -/
def blockTerm (x : S2048x1024.Idx → EReal) (wg wu : S1x1024x256.Idx → EReal) (wd : S1x256x1024.Idx → EReal) (y : S2048x1024.Idx) : EReal :=
  ∑ l : Fin 256, unitTerm (fun q => x (ix2 (y 0) q)) (fun q => wg (ix3 0 q l)) (fun q => wu (ix3 0 q l)) (wd (ix3 0 l (y 1)))

/-- The first point of a row block leaves the first block of hidden units in the output. -/
theorem outA (c : Dev nD) (t : Fin cfg0.N) (h0 : t.val % 11 = 0) (y : S2048x1024.Idx) :
    (outsAt0 m c t.val t.isLt).1 y = blockTerm (iblk m c 0 t) (iblk m c 1 t) (iblk m c 2 t) (iblk m c 3 t) y := by
  rw [outsAt0_A m c t h0 (by omega) (by omega)]
  frame_out
  unfold k0_pay3 k0_pay1
  pointwise
  rfl

/-- and the row block itself in the scratch. -/
theorem scrA (c : Dev nD) (t : Fin cfg0.N) (h0 : t.val % 11 = 0) (y : S2048x1024.Idx) :
    (outsAt0 m c t.val t.isLt).2 y = iblk m c 0 t y := by
  rw [outsAt0_A m c t h0 (by omega) (by omega)]
  frame_out
  unfold k0_pay2 k0_pay1
  pointwise

/-- The points between keep the scratch -/
theorem scrB (c : Dev nD) (t : Fin cfg0.N) (h1 : (1 ≤ t.val % 11 ∧ t.val % 11 ≤ 9)) :
    (outsAt0 m c t.val t.isLt).2 = (outsAt0 m c (t.val - 1) (Nat.lt_of_le_of_lt (Nat.sub_le _ _) t.isLt)).2 := by
  rw [outsAt0_B m c t (by omega) h1 (by omega)]
  rfl

/-- and add their block of hidden units to the output. -/
theorem outB (c : Dev nD) (t : Fin cfg0.N) (h1 : (1 ≤ t.val % 11 ∧ t.val % 11 ≤ 9)) (y : S2048x1024.Idx) :
    (outsAt0 m c t.val t.isLt).1 y = (outsAt0 m c (t.val - 1) (Nat.lt_of_le_of_lt (Nat.sub_le _ _) t.isLt)).1 (ix2 (y 0) (y 1))
      + blockTerm (outsAt0 m c (t.val - 1) (Nat.lt_of_le_of_lt (Nat.sub_le _ _) t.isLt)).2 (iblk m c 1 t) (iblk m c 2 t) (iblk m c 3 t) y := by
  rw [outsAt0_B m c t (by omega) h1 (by omega)]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    unfold blockTerm
    rw [e0, e1]
    refine congrArg₂ (· + ·) (congrArg _ ?_) rfl
    funext a
    match a with
    | ⟨0, _⟩ => exact e0.symm
    | ⟨1, _⟩ => exact e1.symm

/-- The last point adds its block, eight stores of 256 rows, and leaves the layer norm of the residual row. -/
theorem outC (c : Dev nD) (t : Fin cfg0.N) (h1 : t.val % 11 = 10) (y : S2048x1024.Idx) :
    (outsAt0 m c t.val t.isLt).1 y = lnRow (fun k => resid (iblk m c 0 t (ix2 (y 0) k)) ((outsAt0 m c (t.val - 1) (Nat.lt_of_le_of_lt (Nat.sub_le _ _) t.isLt)).1 (ix2 (y 0) k)
      + blockTerm (outsAt0 m c (t.val - 1) (Nat.lt_of_le_of_lt (Nat.sub_le _ _) t.isLt)).2 (iblk m c 1 t) (iblk m c 2 t) (iblk m c 3 t) (ix2 (y 0) k)))
      (iblk m c 4 t (ix2 0 (y 1))) (iblk m c 5 t (ix2 0 (y 1))) (y 1) := by
  rw [outsAt0_C m c t (by omega) (by omega) h1]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    rw [e0, e1]
    rfl

end Cert.Ffn4
-- ==== Proof.FfnBlk4.lean ====
module

public import proofs.«01_k».proof.Proof.Gen.Kernel4Ideal.Value
public import Idealize.ShloMosaic.Lib.Pipeline.ValueKit

@[expose] public section

set_option maxRecDepth 16384

noncomputable section

namespace Cert.Ffn4

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 11, 0] ∧ win0_1.index t = ![0, 0, t.val % 11] ∧ win0_2.index t = ![0, 0, t.val % 11 + 11] ∧ win0_3.index t = ![0, t.val % 11, 0] ∧ win0_4.index t = ![0, 0] ∧ win0_5.index t = ![0, 0] :=
  (by decide +kernel : ∀ t : Fin grid0.N, _)

theorem iblk0 (c : Dev nD) (t : Fin cfg0.N) (r : Fin 2048) (k : Fin 1024) (i : Fin 16384) (hi : i.val = 2048 * (t.val / 11) + r.val) :
    iblk m c 0 t (ix2 r k) = m ((c : Thread nD τ).loc main_arg0) (ix2 i k) := by
  blk_ext [iblk, V, (idx0 t).1]

theorem iblk1 (c : Dev nD) (t : Fin cfg0.N) (k : Fin 1024) (l : Fin 256) (i : Fin 5632) (hi : i.val = 256 * (t.val % 11) + l.val) :
    iblk m c 1 t (ix3 0 k l) = m ((c : Thread nD τ).loc main_arg1) (ix3 0 k i) := by
  blk_ext [iblk, V, (idx0 t).2.1]

theorem iblk2 (c : Dev nD) (t : Fin cfg0.N) (k : Fin 1024) (l : Fin 256) (i : Fin 5632) (hi : i.val = 256 * (t.val % 11) + 2816 + l.val) :
    iblk m c 2 t (ix3 0 k l) = m ((c : Thread nD τ).loc main_arg1) (ix3 0 k i) := by
  blk_ext [iblk, V, (idx0 t).2.2.1]

theorem iblk3 (c : Dev nD) (t : Fin cfg0.N) (k : Fin 1024) (l : Fin 256) (i : Fin 2816) (hi : i.val = 256 * (t.val % 11) + l.val) :
    iblk m c 3 t (ix3 0 l k) = m ((c : Thread nD τ).loc main_arg2) (ix3 0 i k) := by
  blk_ext [iblk, V, (idx0 t).2.2.2.1]

theorem iblk4 (c : Dev nD) (t : Fin cfg0.N) (k : Fin 1024) :
    iblk m c 4 t (ix2 0 k) = m ((c : Thread nD τ).loc main_arg3) (ix3 0 2 k) := by
  unfold iblk
  blk_simp [(idx0 t).2.2.2.2.1]
  entry_read
  pointwise
  blk_ext [(idx0 t).2.2.2.2.1]

theorem iblk5 (c : Dev nD) (t : Fin cfg0.N) (k : Fin 1024) :
    iblk m c 5 t (ix2 0 k) = m ((c : Thread nD τ).loc main_arg4) (ix3 0 2 k) := by
  unfold iblk
  blk_simp [(idx0 t).2.2.2.2.2]
  entry_read
  pointwise
  blk_ext [(idx0 t).2.2.2.2.2]
end Cert.Ffn4
-- ==== Proof.FfnValue4.lean ====
module

public import proofs.«01_k».proof.Proof.Gen.Kernel4Ideal.Value
public import proofs.«01_k».proof.Proof.FfnMath
public import proofs.«01_k».proof.Proof.FfnStep4
public import proofs.«01_k».proof.Proof.FfnBlk4

@[expose] public section

set_option maxRecDepth 16384

noncomputable section

namespace Cert.Ffn4

open Cert.Ffn Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The kernel's arguments as plain tables: a token's row, a column of the first weight, a row of the second. -/
abbrev tokens (c : Dev nD) (i : Fin 16384) (q : Fin 1024) : EReal := m ((c : Thread nD τ).loc main_arg0) (ix2 i q)
abbrev wUp (c : Dev nD) (n : Fin 5632) (q : Fin 1024) : EReal := m ((c : Thread nD τ).loc main_arg1) (ix3 0 q n)
abbrev wDown (c : Dev nD) (n : Fin 2816) (o : Fin 1024) : EReal := m ((c : Thread nD τ).loc main_arg2) (ix3 0 n o)

/-- What hidden unit `n` adds to entry `(i, o)`. -/
def term (c : Dev nD) (i : Fin 16384) (o : Fin 1024) (n : Fin 2816) : EReal :=
  unitTerm (tokens m c i) (wUp m c ⟨n.val, by omega⟩) (wUp m c ⟨2816 + n.val, by omega⟩) (wDown m c n o)

theorem blockTerm_eq (c : Dev nD) (t : Fin cfg0.N) (S : S2048x1024.Idx → EReal) (r : Fin 2048) (o : Fin 1024) (i : Fin 16384)
    (hi : i.val = 2048 * (t.val / 11) + r.val) (hS : ∀ q, S (ix2 r q) = tokens m c i q) :
    blockTerm S (iblk m c 1 t) (iblk m c 2 t) (iblk m c 3 t) (ix2 r o)
      = ∑ l : Fin 256, padded (term m c i o) (256 * (t.val % 11) + l.val) := by
  unfold blockTerm
  refine Finset.sum_congr rfl fun l _ => ?_
  have hl := l.isLt
  have ht : t.val % 11 < 11 := Nat.mod_lt _ (by decide)
  unfold padded
  rw [dif_pos (by omega)]
  unfold term
  congr 1
  · funext q; exact hS q
  · funext q; exact iblk1 m c t q l _ rfl
  · funext q; exact iblk2 m c t q l _ (by simp only; omega)
  · exact iblk3 m c t o l _ rfl

/-- After point `t` of a row block, not its last: the scratch holds the block's rows, the output the hidden units so far. -/
theorem running (c : Dev nD) : ∀ (j : ℕ) (hj : j ≤ 9) (t : Fin cfg0.N) (ht : t.val % 11 = j) (r : Fin 2048) (i : Fin 16384)
    (hi : i.val = 2048 * (t.val / 11) + r.val),
    (∀ q, (outsAt0 m c t.val t.isLt).2 (ix2 r q) = tokens m c i q)
    ∧ ∀ o, (outsAt0 m c t.val t.isLt).1 (ix2 r o)
        = ∑ p ∈ Finset.range (j + 1), ∑ l : Fin 256, padded (term m c i o) (256 * p + l.val) := by
  intro j
  induction j with
  | zero =>
    intro _ t ht r i hi
    refine ⟨fun q => ?_, fun o => ?_⟩
    · rw [scrA m c t ht]; exact iblk0 m c t r q i hi
    · rw [outA m c t ht, blockTerm_eq m c t _ r o i hi (fun q => iblk0 m c t r q i hi), ht]
      simp
  | succ j ih =>
    intro hj t ht r i hi
    have h1 : 1 ≤ t.val % 11 ∧ t.val % 11 ≤ 9 := by omega
    obtain ⟨hs, ho⟩ := ih (by omega) ⟨t.val - 1, Nat.lt_of_le_of_lt (Nat.sub_le _ _) t.isLt⟩ (by simp only; omega) r i
      (by simp only; omega)
    refine ⟨fun q => ?_, fun o => ?_⟩
    · rw [scrB m c t h1]; exact hs q
    · rw [outB m c t h1, blockTerm_eq m c t _ r o i hi hs, Finset.sum_range_succ, ht]
      congr 1
      exact ho o

/-- What the result holds at each entry. -/
def result (c : Dev nD) : S16384x1024.Idx → EReal := fun y =>
  lnRow (fun k => resid (tokens m c (y 0) k) (∑ n, term m c (y 0) k n))
    (m ((c : Thread nD τ).loc main_arg3) (ix3 0 2 (y 1))) (m ((c : Thread nD τ).loc main_arg4) (ix3 0 2 (y 1))) (y 1)

/-- The last point of a row block leaves the result's rows. -/
theorem last (c : Dev nD) (t : Fin cfg0.N) (ht : t.val % 11 = 10) (r : Fin 2048) (o : Fin 1024) (i : Fin 16384)
    (hi : i.val = 2048 * (t.val / 11) + r.val) :
    (outsAt0 m c t.val t.isLt).1 (ix2 r o) = result m c (ix2 i o) := by
  obtain ⟨hs, ho⟩ := running m c 9 le_rfl ⟨t.val - 1, Nat.lt_of_le_of_lt (Nat.sub_le _ _) t.isLt⟩ (by simp only; omega) r i
    (by simp only; omega)
  rw [outC m c t ht]
  unfold result
  have e : (fun k => resid (iblk m c 0 t (ix2 r k)) ((outsAt0 m c (t.val - 1) (Nat.lt_of_le_of_lt (Nat.sub_le _ _) t.isLt)).1 (ix2 r k)
      + blockTerm (outsAt0 m c (t.val - 1) (Nat.lt_of_le_of_lt (Nat.sub_le _ _) t.isLt)).2 (iblk m c 1 t) (iblk m c 2 t) (iblk m c 3 t) (ix2 r k)))
      = fun k => resid (tokens m c i k) (∑ n, term m c i k n) := by
    funext k
    rw [iblk0 m c t r k i hi, ← sum_blocks (term m c i k), Finset.sum_range_succ _ 10]
    congr 2
    · exact ho k
    · rw [blockTerm_eq m c t _ r k i hi hs, ht]
  exact congr (congr (congr (congrArg lnRow e) (iblk4 m c t o)) (iblk5 m c t o)) rfl

/-- The result array after the run. -/
theorem final (c : Dev nD) : (dats m 0 c).arrAt 6 (cfgs 0).N = result m c := by
  refine (dats m 0 c).arrAt_eq_of_covers 6 _ (by decide +kernel) fun t hf y => ?_
  have hm : t.val % 11 = 10 := (flush0_6 t).mp hf
  have hN : t.val < 88 := lt_of_lt_of_eq t.isLt N_0
  have hx : win0_6.index t = ![t.val / 11, 0] := (by decide +kernel : ∀ t : Fin grid0.N, win0_6.index t = ![t.val / 11, 0]) t
  rw [after0_6]
  have hy0 : (y 0).val < 2048 := (y 0).isLt
  have hy1 : (y 1).val < 1024 := (y 1).isLt
  refine Eq.trans ?_ ((last m c t hm ⟨(y 0).val, hy0⟩ ⟨(y 1).val, hy1⟩ ⟨2048 * (t.val / 11) + (y 0).val, by omega⟩ rfl).trans ?_)
  · show (outsAt0 m c t.val t.isLt).1 _ = _
    refine congrArg _ (funext fun a => ?_)
    match a with
    | ⟨0, _⟩ => rfl
    | ⟨1, _⟩ => rfl
  · refine congrArg (result m c) (funext fun a => Fin.ext ?_)
    match a with
    | ⟨0, _⟩ =>
      show 2048 * (t.val / 11) + (y 0).val = win0_6.index t (0 : Fin 2) * 2048 + 1 * (y 0).val
      rw [hx]; simp only [Matrix.cons_val_zero]; omega
    | ⟨1, _⟩ =>
      show (y 1).val = win0_6.index t (1 : Fin 2) * 1024 + 1 * (y 1).val
      rw [hx]; simp only [Matrix.cons_val_one, Matrix.cons_val_zero]; omega

end Cert.Ffn4
-- ==== Proof.FfnRef4.lean ====
module

public import proofs.«01_k».proof.Proof.Gen.Reference4Ideal.Run
public import proofs.«01_k».proof.Proof.FfnMath

@[expose] public section

set_option maxRecDepth 16384

noncomputable section

namespace Cert.Ffn4

open Cert.Ffn Idealize.ShloMosaic Idealize.ShloMosaic.TcCoe Idealize.SL.Sem

/-- The reference's tokens. -/
abbrev rTok (m : (ℓ : Loc Reference4Ideal.nD Reference4Ideal.τ Reference4Ideal.sig) → Buf (Elt Ideal) ℓ) (c : Dev Reference4Ideal.nD) :
    Reference4Ideal.S16384x1024.Idx → EReal := m (c.tc.loc Reference4Ideal.main_arg0)
/-- Its up and gate projection. -/
abbrev rUp (m : (ℓ : Loc Reference4Ideal.nD Reference4Ideal.τ Reference4Ideal.sig) → Buf (Elt Ideal) ℓ) (c : Dev Reference4Ideal.nD) :
    Reference4Ideal.S2x1024x5632.Idx → EReal := m (c.tc.loc Reference4Ideal.main_arg1)
/-- Its down projection. -/
abbrev rDown (m : (ℓ : Loc Reference4Ideal.nD Reference4Ideal.τ Reference4Ideal.sig) → Buf (Elt Ideal) ℓ) (c : Dev Reference4Ideal.nD) :
    Reference4Ideal.S2x2816x1024.Idx → EReal := m (c.tc.loc Reference4Ideal.main_arg2)

/-- The reference's result at an entry: the layer norm of the residual row, its gate the reference's. -/
theorem ref_apply (m : (ℓ : Loc Reference4Ideal.nD Reference4Ideal.τ Reference4Ideal.sig) → Buf (Elt Ideal) ℓ) (c : Dev Reference4Ideal.nD)
    (i : Fin 16384) (o : Fin 1024) :
    Reference4Ideal.Value.res_main_v42 m c (ix2 i o)
      = lnRow (fun k => resid (rTok m c (ix2 i k))
          (∑ n : Fin 2816, gateR
              (∑ q : Fin 1024, rTok m c (ix2 i q) * rUp m c (ix3 0 q ⟨n.val, by omega⟩))
              (∑ q : Fin 1024, rTok m c (ix2 i q) * rUp m c (ix3 0 q ⟨2816 + n.val, by omega⟩))
            * rDown m c (ix3 0 n k)))
        (m (c.tc.loc Reference4Ideal.main_arg3) (ix3 0 2 o)) (m (c.tc.loc Reference4Ideal.main_arg4) (ix3 0 2 o)) o := by
  unfold Reference4Ideal.Value.res_main_v42
  pointwise
  rfl

end Cert.Ffn4
-- ==== Proof.FfnClaim4.lean ====
/-
  The feed-forward step's value claim: the kernel's result array and the reference's are one function of the arguments.
-/
module

public import proofs.«01_k».proof.Defs
public import proofs.«01_k».proof.Proof.FfnValue4
public import proofs.«01_k».proof.Proof.FfnRef4

@[expose] public section

set_option maxRecDepth 16384

noncomputable section

namespace Cert.Ffn4

open Cert.Ffn Idealize.ShloMosaic Idealize.ShloMosaic.TcCoe Idealize.SL.Sem

/-- The kernel's run, its result named. -/
theorem run_kernel (m : (ℓ : Loc Kernel4Ideal.nD Kernel4Ideal.τ Kernel4Ideal.sig) → Buf (Elt Ideal) ℓ) (ρ : Dev Kernel4Ideal.nD → PrngReg) :
    θ_run Kernel4Ideal.defs (onTc (τ := Kernel4Ideal.τ) (Kernel4Ideal.main (F := Ideal))) ⟨m, fun _ => 0, ρ⟩ fun r => ∀ c : Dev Kernel4Ideal.nD,
      r.2.mem ((c : Thread Kernel4Ideal.nD Kernel4Ideal.τ).loc Kernel4Ideal.main_v6) = result m c
      ∧ r.2.mem ((c : Thread Kernel4Ideal.nD Kernel4Ideal.τ).loc Kernel4Ideal.main_arg0) = m ((c : Thread Kernel4Ideal.nD Kernel4Ideal.τ).loc Kernel4Ideal.main_arg0)
      ∧ r.2.mem ((c : Thread Kernel4Ideal.nD Kernel4Ideal.τ).loc Kernel4Ideal.main_arg1) = m ((c : Thread Kernel4Ideal.nD Kernel4Ideal.τ).loc Kernel4Ideal.main_arg1)
      ∧ r.2.mem ((c : Thread Kernel4Ideal.nD Kernel4Ideal.τ).loc Kernel4Ideal.main_arg2) = m ((c : Thread Kernel4Ideal.nD Kernel4Ideal.τ).loc Kernel4Ideal.main_arg2)
      ∧ r.2.mem ((c : Thread Kernel4Ideal.nD Kernel4Ideal.τ).loc Kernel4Ideal.main_arg3) = m ((c : Thread Kernel4Ideal.nD Kernel4Ideal.τ).loc Kernel4Ideal.main_arg3)
      ∧ r.2.mem ((c : Thread Kernel4Ideal.nD Kernel4Ideal.τ).loc Kernel4Ideal.main_arg4) = m ((c : Thread Kernel4Ideal.nD Kernel4Ideal.τ).loc Kernel4Ideal.main_arg4) :=
  (θ_run Kernel4Ideal.defs _ _).mono (fun _ h c => ⟨(h c).1.trans (final m c), (h c).2⟩) (Kernel4Ideal.Value.run_blocks m ρ)

/-- On agreeing arguments the reference's entries are the kernel's. -/
theorem ref_eq (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)
    (h0 : m' ((c.tc : Thread Reference4Ideal.nD Reference4Ideal.τ).loc Reference4Ideal.main_arg0) = m ((c.tc : Thread Kernel4Ideal.nD Kernel4Ideal.τ).loc Kernel4Ideal.main_arg0))
    (h1 : m' ((c.tc : Thread Reference4Ideal.nD Reference4Ideal.τ).loc Reference4Ideal.main_arg1) = m ((c.tc : Thread Kernel4Ideal.nD Kernel4Ideal.τ).loc Kernel4Ideal.main_arg1))
    (h2 : m' ((c.tc : Thread Reference4Ideal.nD Reference4Ideal.τ).loc Reference4Ideal.main_arg2) = m ((c.tc : Thread Kernel4Ideal.nD Kernel4Ideal.τ).loc Kernel4Ideal.main_arg2))
    (h3 : m' ((c.tc : Thread Reference4Ideal.nD Reference4Ideal.τ).loc Reference4Ideal.main_arg3) = m ((c.tc : Thread Kernel4Ideal.nD Kernel4Ideal.τ).loc Kernel4Ideal.main_arg3))
    (h4 : m' ((c.tc : Thread Reference4Ideal.nD Reference4Ideal.τ).loc Reference4Ideal.main_arg4) = m ((c.tc : Thread Kernel4Ideal.nD Kernel4Ideal.τ).loc Kernel4Ideal.main_arg4)) :
    Reference4Ideal.Value.res_main_v42 m' c = result m c := by
  funext y
  have e : y = ix2 (y 0) (y 1) := funext fun a => match a with | ⟨0, _⟩ => rfl | ⟨1, _⟩ => rfl
  rw [e]
  refine (ref_apply m' c (y 0) (y 1)).trans ?_
  unfold result term unitTerm rTok rUp rDown
  simp only [gate_eq]
  rw [h0, h1, h2, h3, h4]
  rfl

theorem algebraic_ffn4 : Cert.algebraic_Kernel4Ideal_Reference4Ideal := by
  intro m ρ m' ρ' _ hag
  refine ⟨fun c => result m c, run_kernel m ρ, (θ_run Reference4Ideal.defs _ _).mono (fun _ h c => ⟨(h c).1.trans ?_, (h c).2⟩) (Reference4Ideal.Value.run m' ρ')⟩
  obtain ⟨h0, h1, h2, h3, h4⟩ := hag c
  exact ref_eq m m' c h0 h1 h2 h3 h4

end Cert.Ffn4
-- ==== Proof.FfnStep5.lean ====
module

public import proofs.«01_k».proof.Proof.Gen.Kernel5Ideal.Value
public import proofs.«01_k».proof.Proof.FfnMath
public import Idealize.ShloMosaic.Lib.Pipeline.ReadBack

@[expose] public section

set_option maxRecDepth 16384

noncomputable section

namespace Cert.Ffn5

open Cert.Ffn Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- What one block of 256 hidden units adds at an output entry. -/
def blockTerm (x : S2048x1024.Idx → EReal) (wg wu : S1x1024x256.Idx → EReal) (wd : S1x256x1024.Idx → EReal) (y : S2048x1024.Idx) : EReal :=
  ∑ l : Fin 256, unitTerm (fun q => x (ix2 (y 0) q)) (fun q => wg (ix3 0 q l)) (fun q => wu (ix3 0 q l)) (wd (ix3 0 l (y 1)))

/-- The first point of a row block leaves the first block of hidden units in the output. -/
theorem outA (c : Dev nD) (t : Fin cfg0.N) (h0 : t.val % 11 = 0) (y : S2048x1024.Idx) :
    (outsAt0 m c t.val t.isLt).1 y = blockTerm (iblk m c 0 t) (iblk m c 1 t) (iblk m c 2 t) (iblk m c 3 t) y := by
  rw [outsAt0_A m c t h0 (by omega) (by omega)]
  frame_out
  unfold k0_pay3 k0_pay1
  pointwise
  rfl

/-- and the row block itself in the scratch. -/
theorem scrA (c : Dev nD) (t : Fin cfg0.N) (h0 : t.val % 11 = 0) (y : S2048x1024.Idx) :
    (outsAt0 m c t.val t.isLt).2 y = iblk m c 0 t y := by
  rw [outsAt0_A m c t h0 (by omega) (by omega)]
  frame_out
  unfold k0_pay2 k0_pay1
  pointwise

/-- The points between keep the scratch -/
theorem scrB (c : Dev nD) (t : Fin cfg0.N) (h1 : (1 ≤ t.val % 11 ∧ t.val % 11 ≤ 9)) :
    (outsAt0 m c t.val t.isLt).2 = (outsAt0 m c (t.val - 1) (Nat.lt_of_le_of_lt (Nat.sub_le _ _) t.isLt)).2 := by
  rw [outsAt0_B m c t (by omega) h1 (by omega)]
  rfl

/-- and add their block of hidden units to the output. -/
theorem outB (c : Dev nD) (t : Fin cfg0.N) (h1 : (1 ≤ t.val % 11 ∧ t.val % 11 ≤ 9)) (y : S2048x1024.Idx) :
    (outsAt0 m c t.val t.isLt).1 y = (outsAt0 m c (t.val - 1) (Nat.lt_of_le_of_lt (Nat.sub_le _ _) t.isLt)).1 (ix2 (y 0) (y 1))
      + blockTerm (outsAt0 m c (t.val - 1) (Nat.lt_of_le_of_lt (Nat.sub_le _ _) t.isLt)).2 (iblk m c 1 t) (iblk m c 2 t) (iblk m c 3 t) y := by
  rw [outsAt0_B m c t (by omega) h1 (by omega)]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    unfold blockTerm
    rw [e0, e1]
    refine congrArg₂ (· + ·) (congrArg _ ?_) rfl
    funext a
    match a with
    | ⟨0, _⟩ => exact e0.symm
    | ⟨1, _⟩ => exact e1.symm

/-- The last point adds its block, eight stores of 256 rows, and leaves the layer norm of the residual row. -/
theorem outC (c : Dev nD) (t : Fin cfg0.N) (h1 : t.val % 11 = 10) (y : S2048x1024.Idx) :
    (outsAt0 m c t.val t.isLt).1 y = lnRow (fun k => resid (iblk m c 0 t (ix2 (y 0) k)) ((outsAt0 m c (t.val - 1) (Nat.lt_of_le_of_lt (Nat.sub_le _ _) t.isLt)).1 (ix2 (y 0) k)
      + blockTerm (outsAt0 m c (t.val - 1) (Nat.lt_of_le_of_lt (Nat.sub_le _ _) t.isLt)).2 (iblk m c 1 t) (iblk m c 2 t) (iblk m c 3 t) (ix2 (y 0) k)))
      (iblk m c 4 t (ix2 0 (y 1))) (iblk m c 5 t (ix2 0 (y 1))) (y 1) := by
  rw [outsAt0_C m c t (by omega) (by omega) h1]
  frame_out
  simp only [read_unread_whole]
  canon_tiles x h
  all_goals
    open_payloads
    pointwise
    have e0 : y 0 = ⟨_, h0 ▸ (y 0).isLt⟩ := Fin.ext h0
    have e1 : y 1 = ⟨_, h1 ▸ (y 1).isLt⟩ := Fin.ext h1
    rw [e0, e1]
    rfl

end Cert.Ffn5
-- ==== Proof.FfnBlk5.lean ====
module

public import proofs.«01_k».proof.Proof.Gen.Kernel5Ideal.Value
public import Idealize.ShloMosaic.Lib.Pipeline.ValueKit

@[expose] public section

set_option maxRecDepth 16384

noncomputable section

namespace Cert.Ffn5

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 11, 0] ∧ win0_1.index t = ![0, 0, t.val % 11] ∧ win0_2.index t = ![0, 0, t.val % 11 + 11] ∧ win0_3.index t = ![0, t.val % 11, 0] ∧ win0_4.index t = ![0, 0] ∧ win0_5.index t = ![0, 0] :=
  (by decide +kernel : ∀ t : Fin grid0.N, _)

theorem iblk0 (c : Dev nD) (t : Fin cfg0.N) (r : Fin 2048) (k : Fin 1024) (i : Fin 16384) (hi : i.val = 2048 * (t.val / 11) + r.val) :
    iblk m c 0 t (ix2 r k) = m ((c : Thread nD τ).loc main_arg0) (ix2 i k) := by
  blk_ext [iblk, V, (idx0 t).1]

theorem iblk1 (c : Dev nD) (t : Fin cfg0.N) (k : Fin 1024) (l : Fin 256) (i : Fin 5632) (hi : i.val = 256 * (t.val % 11) + l.val) :
    iblk m c 1 t (ix3 0 k l) = m ((c : Thread nD τ).loc main_arg1) (ix3 0 k i) := by
  blk_ext [iblk, V, (idx0 t).2.1]

theorem iblk2 (c : Dev nD) (t : Fin cfg0.N) (k : Fin 1024) (l : Fin 256) (i : Fin 5632) (hi : i.val = 256 * (t.val % 11) + 2816 + l.val) :
    iblk m c 2 t (ix3 0 k l) = m ((c : Thread nD τ).loc main_arg1) (ix3 0 k i) := by
  blk_ext [iblk, V, (idx0 t).2.2.1]

theorem iblk3 (c : Dev nD) (t : Fin cfg0.N) (k : Fin 1024) (l : Fin 256) (i : Fin 2816) (hi : i.val = 256 * (t.val % 11) + l.val) :
    iblk m c 3 t (ix3 0 l k) = m ((c : Thread nD τ).loc main_arg2) (ix3 0 i k) := by
  blk_ext [iblk, V, (idx0 t).2.2.2.1]

theorem iblk4 (c : Dev nD) (t : Fin cfg0.N) (k : Fin 1024) :
    iblk m c 4 t (ix2 0 k) = m ((c : Thread nD τ).loc main_arg3) (ix3 0 0 k) := by
  unfold iblk
  blk_simp [(idx0 t).2.2.2.2.1]
  entry_read
  pointwise
  blk_ext [(idx0 t).2.2.2.2.1]

theorem iblk5 (c : Dev nD) (t : Fin cfg0.N) (k : Fin 1024) :
    iblk m c 5 t (ix2 0 k) = m ((c : Thread nD τ).loc main_arg4) (ix3 0 0 k) := by
  unfold iblk
  blk_simp [(idx0 t).2.2.2.2.2]
  entry_read
  pointwise
  blk_ext [(idx0 t).2.2.2.2.2]
end Cert.Ffn5
-- ==== Proof.FfnValue5.lean ====
module

public import proofs.«01_k».proof.Proof.Gen.Kernel5Ideal.Value
public import proofs.«01_k».proof.Proof.FfnMath
public import proofs.«01_k».proof.Proof.FfnStep5
public import proofs.«01_k».proof.Proof.FfnBlk5

@[expose] public section

set_option maxRecDepth 16384

noncomputable section

namespace Cert.Ffn5

open Cert.Ffn Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The kernel's arguments as plain tables: a token's row, a column of the first weight, a row of the second. -/
abbrev tokens (c : Dev nD) (i : Fin 16384) (q : Fin 1024) : EReal := m ((c : Thread nD τ).loc main_arg0) (ix2 i q)
abbrev wUp (c : Dev nD) (n : Fin 5632) (q : Fin 1024) : EReal := m ((c : Thread nD τ).loc main_arg1) (ix3 0 q n)
abbrev wDown (c : Dev nD) (n : Fin 2816) (o : Fin 1024) : EReal := m ((c : Thread nD τ).loc main_arg2) (ix3 0 n o)

/-- What hidden unit `n` adds to entry `(i, o)`. -/
def term (c : Dev nD) (i : Fin 16384) (o : Fin 1024) (n : Fin 2816) : EReal :=
  unitTerm (tokens m c i) (wUp m c ⟨n.val, by omega⟩) (wUp m c ⟨2816 + n.val, by omega⟩) (wDown m c n o)

theorem blockTerm_eq (c : Dev nD) (t : Fin cfg0.N) (S : S2048x1024.Idx → EReal) (r : Fin 2048) (o : Fin 1024) (i : Fin 16384)
    (hi : i.val = 2048 * (t.val / 11) + r.val) (hS : ∀ q, S (ix2 r q) = tokens m c i q) :
    blockTerm S (iblk m c 1 t) (iblk m c 2 t) (iblk m c 3 t) (ix2 r o)
      = ∑ l : Fin 256, padded (term m c i o) (256 * (t.val % 11) + l.val) := by
  unfold blockTerm
  refine Finset.sum_congr rfl fun l _ => ?_
  have hl := l.isLt
  have ht : t.val % 11 < 11 := Nat.mod_lt _ (by decide)
  unfold padded
  rw [dif_pos (by omega)]
  unfold term
  congr 1
  · funext q; exact hS q
  · funext q; exact iblk1 m c t q l _ rfl
  · funext q; exact iblk2 m c t q l _ (by simp only; omega)
  · exact iblk3 m c t o l _ rfl

/-- After point `t` of a row block, not its last: the scratch holds the block's rows, the output the hidden units so far. -/
theorem running (c : Dev nD) : ∀ (j : ℕ) (hj : j ≤ 9) (t : Fin cfg0.N) (ht : t.val % 11 = j) (r : Fin 2048) (i : Fin 16384)
    (hi : i.val = 2048 * (t.val / 11) + r.val),
    (∀ q, (outsAt0 m c t.val t.isLt).2 (ix2 r q) = tokens m c i q)
    ∧ ∀ o, (outsAt0 m c t.val t.isLt).1 (ix2 r o)
        = ∑ p ∈ Finset.range (j + 1), ∑ l : Fin 256, padded (term m c i o) (256 * p + l.val) := by
  intro j
  induction j with
  | zero =>
    intro _ t ht r i hi
    refine ⟨fun q => ?_, fun o => ?_⟩
    · rw [scrA m c t ht]; exact iblk0 m c t r q i hi
    · rw [outA m c t ht, blockTerm_eq m c t _ r o i hi (fun q => iblk0 m c t r q i hi), ht]
      simp
  | succ j ih =>
    intro hj t ht r i hi
    have h1 : 1 ≤ t.val % 11 ∧ t.val % 11 ≤ 9 := by omega
    obtain ⟨hs, ho⟩ := ih (by omega) ⟨t.val - 1, Nat.lt_of_le_of_lt (Nat.sub_le _ _) t.isLt⟩ (by simp only; omega) r i
      (by simp only; omega)
    refine ⟨fun q => ?_, fun o => ?_⟩
    · rw [scrB m c t h1]; exact hs q
    · rw [outB m c t h1, blockTerm_eq m c t _ r o i hi hs, Finset.sum_range_succ, ht]
      congr 1
      exact ho o

/-- What the result holds at each entry. -/
def result (c : Dev nD) : S16384x1024.Idx → EReal := fun y =>
  lnRow (fun k => resid (tokens m c (y 0) k) (∑ n, term m c (y 0) k n))
    (m ((c : Thread nD τ).loc main_arg3) (ix3 0 0 (y 1))) (m ((c : Thread nD τ).loc main_arg4) (ix3 0 0 (y 1))) (y 1)

/-- The last point of a row block leaves the result's rows. -/
theorem last (c : Dev nD) (t : Fin cfg0.N) (ht : t.val % 11 = 10) (r : Fin 2048) (o : Fin 1024) (i : Fin 16384)
    (hi : i.val = 2048 * (t.val / 11) + r.val) :
    (outsAt0 m c t.val t.isLt).1 (ix2 r o) = result m c (ix2 i o) := by
  obtain ⟨hs, ho⟩ := running m c 9 le_rfl ⟨t.val - 1, Nat.lt_of_le_of_lt (Nat.sub_le _ _) t.isLt⟩ (by simp only; omega) r i
    (by simp only; omega)
  rw [outC m c t ht]
  unfold result
  have e : (fun k => resid (iblk m c 0 t (ix2 r k)) ((outsAt0 m c (t.val - 1) (Nat.lt_of_le_of_lt (Nat.sub_le _ _) t.isLt)).1 (ix2 r k)
      + blockTerm (outsAt0 m c (t.val - 1) (Nat.lt_of_le_of_lt (Nat.sub_le _ _) t.isLt)).2 (iblk m c 1 t) (iblk m c 2 t) (iblk m c 3 t) (ix2 r k)))
      = fun k => resid (tokens m c i k) (∑ n, term m c i k n) := by
    funext k
    rw [iblk0 m c t r k i hi, ← sum_blocks (term m c i k), Finset.sum_range_succ _ 10]
    congr 2
    · exact ho k
    · rw [blockTerm_eq m c t _ r k i hi hs, ht]
  exact congr (congr (congr (congrArg lnRow e) (iblk4 m c t o)) (iblk5 m c t o)) rfl

/-- The result array after the run. -/
theorem final (c : Dev nD) : (dats m 0 c).arrAt 6 (cfgs 0).N = result m c := by
  refine (dats m 0 c).arrAt_eq_of_covers 6 _ (by decide +kernel) fun t hf y => ?_
  have hm : t.val % 11 = 10 := (flush0_6 t).mp hf
  have hN : t.val < 88 := lt_of_lt_of_eq t.isLt N_0
  have hx : win0_6.index t = ![t.val / 11, 0] := (by decide +kernel : ∀ t : Fin grid0.N, win0_6.index t = ![t.val / 11, 0]) t
  rw [after0_6]
  have hy0 : (y 0).val < 2048 := (y 0).isLt
  have hy1 : (y 1).val < 1024 := (y 1).isLt
  refine Eq.trans ?_ ((last m c t hm ⟨(y 0).val, hy0⟩ ⟨(y 1).val, hy1⟩ ⟨2048 * (t.val / 11) + (y 0).val, by omega⟩ rfl).trans ?_)
  · show (outsAt0 m c t.val t.isLt).1 _ = _
    refine congrArg _ (funext fun a => ?_)
    match a with
    | ⟨0, _⟩ => rfl
    | ⟨1, _⟩ => rfl
  · refine congrArg (result m c) (funext fun a => Fin.ext ?_)
    match a with
    | ⟨0, _⟩ =>
      show 2048 * (t.val / 11) + (y 0).val = win0_6.index t (0 : Fin 2) * 2048 + 1 * (y 0).val
      rw [hx]; simp only [Matrix.cons_val_zero]; omega
    | ⟨1, _⟩ =>
      show (y 1).val = win0_6.index t (1 : Fin 2) * 1024 + 1 * (y 1).val
      rw [hx]; simp only [Matrix.cons_val_one, Matrix.cons_val_zero]; omega

end Cert.Ffn5
-- ==== Proof.FfnRef5.lean ====
module

public import proofs.«01_k».proof.Proof.Gen.Reference5Ideal.Run
public import proofs.«01_k».proof.Proof.FfnMath

@[expose] public section

set_option maxRecDepth 16384

noncomputable section

namespace Cert.Ffn5

open Cert.Ffn Idealize.ShloMosaic Idealize.ShloMosaic.TcCoe Idealize.SL.Sem

/-- The reference's tokens. -/
abbrev rTok (m : (ℓ : Loc Reference5Ideal.nD Reference5Ideal.τ Reference5Ideal.sig) → Buf (Elt Ideal) ℓ) (c : Dev Reference5Ideal.nD) :
    Reference5Ideal.S16384x1024.Idx → EReal := m (c.tc.loc Reference5Ideal.main_arg0)
/-- Its up and gate projection. -/
abbrev rUp (m : (ℓ : Loc Reference5Ideal.nD Reference5Ideal.τ Reference5Ideal.sig) → Buf (Elt Ideal) ℓ) (c : Dev Reference5Ideal.nD) :
    Reference5Ideal.S2x1024x5632.Idx → EReal := m (c.tc.loc Reference5Ideal.main_arg1)
/-- Its down projection. -/
abbrev rDown (m : (ℓ : Loc Reference5Ideal.nD Reference5Ideal.τ Reference5Ideal.sig) → Buf (Elt Ideal) ℓ) (c : Dev Reference5Ideal.nD) :
    Reference5Ideal.S2x2816x1024.Idx → EReal := m (c.tc.loc Reference5Ideal.main_arg2)

/-- The reference's result at an entry: the layer norm of the residual row, its gate the reference's. -/
theorem ref_apply (m : (ℓ : Loc Reference5Ideal.nD Reference5Ideal.τ Reference5Ideal.sig) → Buf (Elt Ideal) ℓ) (c : Dev Reference5Ideal.nD)
    (i : Fin 16384) (o : Fin 1024) :
    Reference5Ideal.Value.res_main_v42 m c (ix2 i o)
      = lnRow (fun k => resid (rTok m c (ix2 i k))
          (∑ n : Fin 2816, gateR
              (∑ q : Fin 1024, rTok m c (ix2 i q) * rUp m c (ix3 0 q ⟨n.val, by omega⟩))
              (∑ q : Fin 1024, rTok m c (ix2 i q) * rUp m c (ix3 0 q ⟨2816 + n.val, by omega⟩))
            * rDown m c (ix3 0 n k)))
        (m (c.tc.loc Reference5Ideal.main_arg3) (ix3 0 0 o)) (m (c.tc.loc Reference5Ideal.main_arg4) (ix3 0 0 o)) o := by
  unfold Reference5Ideal.Value.res_main_v42
  pointwise
  rfl

end Cert.Ffn5
-- ==== Proof.FfnClaim5.lean ====
/-
  The feed-forward step's value claim: the kernel's result array and the reference's are one function of the arguments.
-/
module

public import proofs.«01_k».proof.Defs
public import proofs.«01_k».proof.Proof.FfnValue5
public import proofs.«01_k».proof.Proof.FfnRef5

@[expose] public section

set_option maxRecDepth 16384

noncomputable section

namespace Cert.Ffn5

open Cert.Ffn Idealize.ShloMosaic Idealize.ShloMosaic.TcCoe Idealize.SL.Sem

/-- The kernel's run, its result named. -/
theorem run_kernel (m : (ℓ : Loc Kernel5Ideal.nD Kernel5Ideal.τ Kernel5Ideal.sig) → Buf (Elt Ideal) ℓ) (ρ : Dev Kernel5Ideal.nD → PrngReg) :
    θ_run Kernel5Ideal.defs (onTc (τ := Kernel5Ideal.τ) (Kernel5Ideal.main (F := Ideal))) ⟨m, fun _ => 0, ρ⟩ fun r => ∀ c : Dev Kernel5Ideal.nD,
      r.2.mem ((c : Thread Kernel5Ideal.nD Kernel5Ideal.τ).loc Kernel5Ideal.main_v6) = result m c
      ∧ r.2.mem ((c : Thread Kernel5Ideal.nD Kernel5Ideal.τ).loc Kernel5Ideal.main_arg0) = m ((c : Thread Kernel5Ideal.nD Kernel5Ideal.τ).loc Kernel5Ideal.main_arg0)
      ∧ r.2.mem ((c : Thread Kernel5Ideal.nD Kernel5Ideal.τ).loc Kernel5Ideal.main_arg1) = m ((c : Thread Kernel5Ideal.nD Kernel5Ideal.τ).loc Kernel5Ideal.main_arg1)
      ∧ r.2.mem ((c : Thread Kernel5Ideal.nD Kernel5Ideal.τ).loc Kernel5Ideal.main_arg2) = m ((c : Thread Kernel5Ideal.nD Kernel5Ideal.τ).loc Kernel5Ideal.main_arg2)
      ∧ r.2.mem ((c : Thread Kernel5Ideal.nD Kernel5Ideal.τ).loc Kernel5Ideal.main_arg3) = m ((c : Thread Kernel5Ideal.nD Kernel5Ideal.τ).loc Kernel5Ideal.main_arg3)
      ∧ r.2.mem ((c : Thread Kernel5Ideal.nD Kernel5Ideal.τ).loc Kernel5Ideal.main_arg4) = m ((c : Thread Kernel5Ideal.nD Kernel5Ideal.τ).loc Kernel5Ideal.main_arg4) :=
  (θ_run Kernel5Ideal.defs _ _).mono (fun _ h c => ⟨(h c).1.trans (final m c), (h c).2⟩) (Kernel5Ideal.Value.run_blocks m ρ)

/-- On agreeing arguments the reference's entries are the kernel's. -/
theorem ref_eq (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2))
    (h3 : m' ((c.tc : Thread Reference5Ideal.nD Reference5Ideal.τ).loc Reference5Ideal.main_arg3) = m ((c.tc : Thread Kernel5Ideal.nD Kernel5Ideal.τ).loc Kernel5Ideal.main_arg3))
    (h4 : m' ((c.tc : Thread Reference5Ideal.nD Reference5Ideal.τ).loc Reference5Ideal.main_arg4) = m ((c.tc : Thread Kernel5Ideal.nD Kernel5Ideal.τ).loc Kernel5Ideal.main_arg4)) :
    Reference5Ideal.Value.res_main_v42 m' c = result m c := by
  funext y
  have e : y = ix2 (y 0) (y 1) := funext fun a => match a with | ⟨0, _⟩ => rfl | ⟨1, _⟩ => rfl
  rw [e]
  refine (ref_apply m' c (y 0) (y 1)).trans ?_
  unfold result term unitTerm rTok rUp rDown
  simp only [gate_eq]
  rw [h0, h1, h2, h3, h4]
  rfl

theorem algebraic_ffn5 : Cert.algebraic_Kernel5Ideal_Reference5Ideal := by
  intro m ρ m' ρ' _ hag
  refine ⟨fun c => result m c, run_kernel m ρ, (θ_run Reference5Ideal.defs _ _).mono (fun _ h c => ⟨(h c).1.trans ?_, (h c).2⟩) (Reference5Ideal.Value.run m' ρ')⟩
  obtain ⟨h0, h1, h2, h3, h4⟩ := hag c
  exact ref_eq m m' c h0 h1 h2 h3 h4

end Cert.Ffn5
-- ==== Proof.AttnCond.lean ====
/-
  The differential attention kernel's loop counts and branch conditions, over its grid.
-/
module

public import proofs.«01_k».proof.Proof.Gen.KernelIdeal.Frame
public import proofs.«01_k».proof.Proof.Gen.KernelIdeal.Loops
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The second half of the split loop has no trip. -/
theorem trips2_eq (i : grid0.Coords) : (k0_t2_loop i).trips = 0 := by
  revert i
  decide +kernel

/-- The loop runs once per pair of tiles before the query's own. -/
theorem trips1_eq (i : grid0.Coords) : (k0_t1_loop i).trips = (i 1).val / 2 := by
  revert i
  decide +kernel

/-- The first tile of queries of a batch element. -/
abbrev cnd1 (i : grid0.Coords) : Prop := Scalar.cmpi .ne (Scalar.extui (Scalar.cmpi .eq (BitVec.ofNat 32 (i 1).val) (0#32))) (0#32) = 1#1

theorem cond1_iff (i : grid0.Coords) : Iff (cnd1 i) ((i 1).val = 0) := by
  revert i
  decide +kernel

theorem cond2_iff (i : grid0.Coords) : Iff (k0_cond2 i = 1#1) ((i 1).val % 2 = 0) := by
  revert i
  decide +kernel

theorem cond3_iff (i : grid0.Coords) : Iff (k0_cond3 i = 1#1) ((i 1).val % 2 = 1) := by
  revert i
  decide +kernel

/-- A buffer held at some contents is owned at something. -/
theorem own_any (c : Dev nD) {sp : Space} {S : Shape} {e : EltTy} (a : Memref sig .tc sp S e) (f) :
    (a.view.loc (c : Thread nD τ) ↦[a.view.set]{fullShare} f : sProp 𝕄)
      ⊢ iprop(∃ d, ∃ f', ⌜a.view.read (Elt F) f' = d⌝ ∗ (a.view.loc (c : Thread nD τ) ↦[a.view.set]{fullShare} f')) := by
  iintro H
  iexists _
  iexists f
  isplitr
  · ipureintro; rfl
  iexact H

end Cert.Attn
-- ==== Proof.AttnRunA.lean ====
/-
  One run of the differential attention kernel's body: case A.
-/
module

public import proofs.«01_k».proof.Proof.Gen.KernelIdeal.Frame
public import proofs.«01_k».proof.Proof.Gen.KernelIdeal.Loops
public import proofs.«01_k».proof.Proof.AttnCond
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body at the first tile of queries of a batch element: it lays out the masked keys and takes the one tile of keys. -/
noncomputable def runA (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 0)
    (x2 : Vec F S1x256x256 .f32) (x3 : Vec F S4096x256 .bf16) (x4 : Vec F S16x256x256 .bf16) (x5 : Vec F S4x32 .f32) (x6 : Vec F S64x1 .f32) :
    Σ' (L7 : List (View.Piece (Elt F) S256x256 .bf16)), { L8 : List (View.Piece (Elt F) S16x2048x256 .bf16) //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K } := by
  have hc1 : cnd1 i := (cond1_iff i).mpr h
  have hc2 : k0_cond2 i = 1#1 := (cond2_iff i).mpr (by omega)
  have hc3 : ¬ k0_cond3 i = 1#1 := fun e => absurd ((cond3_iff i).mp e) (by omega)
  have htr : (k0_t1_loop i).trips = 0 := by rw [trips1_eq]; omega
  have htr2 : (k0_t2_loop i).trips = 0 := trips2_eq i
  refine ⟨?_, ?_, fun E K => ?run⟩
  case run =>
    rw [cc0_diff_attn_eq_skeleton]; unfold cc0_diff_attn_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, Hk⟩
    obtain rfl := harg2.eq_unread hf2; obtain rfl := harg3.eq_unread hf3; obtain rfl := harg4.eq_unread hf4; obtain rfl := harg5.eq_unread hf5; obtain rfl := harg6.eq_unread hf6
    sl_exec_parts! (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iapply (own_any c arg9 _); iexact H9
    isplitl [H10]
    · iapply (own_any c arg10 _); iexact H10
    isplitl [H11]
    · iapply (own_any c arg11 _); iexact H11
    isplitl [H12]
    · iapply (own_any c arg12 _); iexact H12
    isplitl [H13]
    · iapply (own_any c arg13 _); iexact H13
    isplitl [H14]
    · iapply (own_any c arg14 _); iexact H14
    iapply (own_any c arg15 _); iexact H15

set_option maxHeartbeats 8000000 in
theorem runA_cover7 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 0)
    (x2 : Vec F S1x256x256 .f32) (x3 : Vec F S4096x256 .bf16) (x4 : Vec F S16x256x256 .bf16) (x5 : Vec F S4x32 .f32) (x6 : Vec F S64x1 .f32) (y : S256x256.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6).1, y ∈ p.1.set :=
  View.cover_of_tiledL _ ![256, 256] (by sl_kernel_rfl) y

set_option maxHeartbeats 8000000 in
theorem runA_cover8 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 0)
    (x2 : Vec F S1x256x256 .f32) (x3 : Vec F S4096x256 .bf16) (x4 : Vec F S16x256x256 .bf16) (x5 : Vec F S4x32 .f32) (x6 : Vec F S64x1 .f32) (y : S16x2048x256.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6).2.1, y ∈ p.1.set :=
  View.cover_of_tiledL _ ![1, 256, 256] (by sl_kernel_rfl) y

end Cert.Attn
-- ==== Proof.AttnTrip.lean ====
/-
  One trip of the differential attention kernel's loop over pairs of key tiles, run once at a symbolic trip.
-/
module

public import proofs.«01_k».proof.Proof.Gen.KernelIdeal.Frame
public import proofs.«01_k».proof.Proof.Gen.KernelIdeal.Loops
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- One trip of the loop over pairs of tiles: what it leaves in the running maximum, the accumulator, the scores and their column maxima. -/
noncomputable def trip1 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (k : Fin (k0_t1_loop i).trips)
    (x4 : Vec F S16x256x256 .bf16) (x8 : Vec F S16x2048x256 .bf16) (x9 : Vec F S8x1x256 .f32) (x11 : Vec F S8x80x256 .f32) (x12 : Vec F S2x2048x256 .f32) (x13 : Vec F S2x8x1x256 .f32) :
    Σ' (L9 : List (View.Piece (Elt F) S8x1x256 .f32)) (L11 : List (View.Piece (Elt F) S8x80x256 .f32)) (L12 : List (View.Piece (Elt F) S2x2048x256 .f32)), { L13 : List (View.Piece (Elt F) S2x8x1x256 .f32) //
      ∀ (E : Set ℕ) (K : Unit → sProp 𝕄),
        iprop(owns (c : Thread nD τ) arg4 fullShare x4 ∗ owns (c : Thread nD τ) arg8 fullShare x8 ∗ owns (c : Thread nD τ) arg9 fullShare x9 ∗ (∃ f, arg10.view.loc (c : Thread nD τ) ↦[arg10.view.set]{fullShare} f) ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} f) ∗ (iprop(owns (c : Thread nD τ) arg4 fullShare x4 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} f) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} f)) -∗ K ⟨⟩))
        ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k ⟨⟩) K } := by
  refine ⟨?_, ?_, ?_, ?_, fun E K => ?run⟩
  case run =>
    unfold k0_t1_body
    unfold owns
    iintro ⟨⟨%f4, %hf4, H4⟩, ⟨%f8, %hf8, H8⟩, ⟨%f9, %hf9, H9⟩, ⟨%f10, H10⟩, ⟨%f11, %hf11, H11⟩, ⟨%f12, %hf12, H12⟩, ⟨%f13, %hf13, H13⟩, ⟨%f14, H14⟩, Hk⟩
    obtain rfl := harg4.eq_unread hf4; obtain rfl := harg8.eq_unread hf8; obtain rfl := harg9.eq_unread hf9; obtain rfl := harg11.eq_unread hf11; obtain rfl := harg12.eq_unread hf12; obtain rfl := harg13.eq_unread hf13
    sl_exec_parts!
    sl_step
    iapply Hk
    isplitl [H4]
    · iexists _; isplitr; · ipureintro; exact harg4.read_unread _
      iexact H4
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Attn
-- ==== Proof.AttnLoop.lean ====
/-
  The loop over pairs of key tiles of the differential attention kernel: what its buffers hold before every trip, and the loop's invariant.
-/
module

public import proofs.«01_k».proof.Proof.Gen.KernelIdeal.Frame
public import proofs.«01_k».proof.Proof.Gen.KernelIdeal.Loops
public import proofs.«01_k».proof.Proof.AttnTrip
public import proofs.«01_k».proof.Proof.AttnCond
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- One trip stores every entry of buffer 9. -/
theorem trip1_cover9 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (k : Fin (k0_t1_loop i).trips) (x4 : Vec F S16x256x256 .bf16) (x8 : Vec F S16x2048x256 .bf16) (x9 : Vec F S8x1x256 .f32) (x11 : Vec F S8x80x256 .f32) (x12 : Vec F S2x2048x256 .f32) (x13 : Vec F S2x8x1x256 .f32) (y : S8x1x256.Idx) :
    ∃ p ∈ (trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k x4 x8 x9 x11 x12 x13).1, y ∈ p.1.set :=
  View.cover_of_tiledL _ ![1, 1, 256] (by sl_kernel_rfl) y

set_option maxHeartbeats 8000000 in
/-- One trip stores every entry of buffer 11. -/
theorem trip1_cover11 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (k : Fin (k0_t1_loop i).trips) (x4 : Vec F S16x256x256 .bf16) (x8 : Vec F S16x2048x256 .bf16) (x9 : Vec F S8x1x256 .f32) (x11 : Vec F S8x80x256 .f32) (x12 : Vec F S2x2048x256 .f32) (x13 : Vec F S2x8x1x256 .f32) (y : S8x80x256.Idx) :
    ∃ p ∈ (trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k x4 x8 x9 x11 x12 x13).2.1, y ∈ p.1.set :=
  View.cover_of_tiledL _ ![1, 80, 256] (by sl_kernel_rfl) y

set_option maxHeartbeats 8000000 in
/-- One trip stores every entry of buffer 12. -/
theorem trip1_cover12 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (k : Fin (k0_t1_loop i).trips) (x4 : Vec F S16x256x256 .bf16) (x8 : Vec F S16x2048x256 .bf16) (x9 : Vec F S8x1x256 .f32) (x11 : Vec F S8x80x256 .f32) (x12 : Vec F S2x2048x256 .f32) (x13 : Vec F S2x8x1x256 .f32) (y : S2x2048x256.Idx) :
    ∃ p ∈ (trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k x4 x8 x9 x11 x12 x13).2.2.1, y ∈ p.1.set :=
  View.cover_of_tiledL _ ![1, 2048, 256] (by sl_kernel_rfl) y

set_option maxHeartbeats 8000000 in
/-- One trip stores every entry of buffer 13. -/
theorem trip1_cover13 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (k : Fin (k0_t1_loop i).trips) (x4 : Vec F S16x256x256 .bf16) (x8 : Vec F S16x2048x256 .bf16) (x9 : Vec F S8x1x256 .f32) (x11 : Vec F S8x80x256 .f32) (x12 : Vec F S2x2048x256 .f32) (x13 : Vec F S2x8x1x256 .f32) (y : S2x8x1x256.Idx) :
    ∃ p ∈ (trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k x4 x8 x9 x11 x12 x13).2.2.2.1, y ∈ p.1.set :=
  View.cover_of_tiledL _ ![1, 1, 1, 256] (by sl_kernel_rfl) y

/-- The contents of the maximum, the accumulator, the scores and their column maxima before trip `n`. -/
def pb (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (g4 : Buf (Elt F) (arg4.view.loc (c : Thread nD τ))) (g8 : Buf (Elt F) (arg8.view.loc (c : Thread nD τ))) (g : Buf (Elt F) (arg9.view.loc (c : Thread nD τ)) × Buf (Elt F) (arg11.view.loc (c : Thread nD τ)) × Buf (Elt F) (arg12.view.loc (c : Thread nD τ)) × Buf (Elt F) (arg13.view.loc (c : Thread nD τ))) : ℕ → Buf (Elt F) (arg9.view.loc (c : Thread nD τ)) × Buf (Elt F) (arg11.view.loc (c : Thread nD τ)) × Buf (Elt F) (arg12.view.loc (c : Thread nD τ)) × Buf (Elt F) (arg13.view.loc (c : Thread nD τ))
  | 0 => g
  | n + 1 =>
    if h : n < (k0_t1_loop i).trips then
      let s := pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 g n
      let T := trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 ⟨n, h⟩ (arg4.view.read (Elt F) g4) (arg8.view.read (Elt F) g8) (arg9.view.read (Elt F) (s).1) (arg11.view.read (Elt F) (s).2.1) (arg12.view.read (Elt F) (s).2.2.1) (arg13.view.read (Elt F) (s).2.2.2)
      (harg9.unread (View.canon T.1), harg11.unread (View.canon T.2.1), harg12.unread (View.canon T.2.2.1), harg13.unread (View.canon T.2.2.2.1))
    else pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 g n

/-- Writes that cover a whole buffer leave the contents they spell. -/
theorem writes_whole {s : Shape} {e : _} (M : Memref sig .tc .vmem s e) (hM : M.IsWhole) (f : M.view.ty.Contents (Elt F)) (L : List (View.Piece (Elt F) s e))
    (h : ∀ y, ∃ p ∈ L, y ∈ p.1.set) : M.view.writes (Elt F) f L = hM.unread (View.canon L) :=
  hM.eq_unread (View.read_writes_eq_canon M.view f L h)

set_option maxHeartbeats 8000000 in
set_option warn.classDefReducibility false in
/-- The invariant of the loop over pairs of key tiles. -/
@[sl_loop] def loopInv1 (E : Set ℕ) (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) (g4 : Buf (Elt F) (arg4.view.loc (c : Thread nD τ))) (g8 : Buf (Elt F) (arg8.view.loc (c : Thread nD τ))) (g9 : Buf (Elt F) (arg9.view.loc (c : Thread nD τ))) (g11 : Buf (Elt F) (arg11.view.loc (c : Thread nD τ))) (g12 : Buf (Elt F) (arg12.view.loc (c : Thread nD τ))) (g13 : Buf (Elt F) (arg13.view.loc (c : Thread nD τ))) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 where
  inv k _ := iprop((arg4.view.loc (c : Thread nD τ) ↦[arg4.view.set]{fullShare} g4) ∗ (arg8.view.loc (c : Thread nD τ) ↦[arg8.view.set]{fullShare} g8) ∗ (∃ f, (arg9.view.loc (c : Thread nD τ) ↦[arg9.view.set]{fullShare} f) ∗ ⌜f = (Nat.casesOn (motive := fun _ => Buf (Elt F) (arg9.view.loc (c : Thread nD τ))) k g9 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).1)⌝) ∗ (∃ f, (arg10.view.loc (c : Thread nD τ) ↦[arg10.view.set]{fullShare} f)) ∗ (∃ f, (arg11.view.loc (c : Thread nD τ) ↦[arg11.view.set]{fullShare} f) ∗ ⌜f = (Nat.casesOn (motive := fun _ => Buf (Elt F) (arg11.view.loc (c : Thread nD τ))) k g11 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.1)⌝) ∗ (∃ f, (arg12.view.loc (c : Thread nD τ) ↦[arg12.view.set]{fullShare} f) ∗ ⌜f = (Nat.casesOn (motive := fun _ => Buf (Elt F) (arg12.view.loc (c : Thread nD τ))) k g12 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.2.1)⌝) ∗ (∃ f, (arg13.view.loc (c : Thread nD τ) ↦[arg13.view.set]{fullShare} f) ∗ ⌜f = (Nat.casesOn (motive := fun _ => Buf (Elt F) (arg13.view.loc (c : Thread nD τ))) k g13 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.2.2)⌝) ∗ (∃ f, (arg14.view.loc (c : Thread nD τ) ↦[arg14.view.set]{fullShare} f)))
  step k _ := by
    have e : pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (k.val + 1) =
        (let s := pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val
         let T := trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k (arg4.view.read (Elt F) g4) (arg8.view.read (Elt F) g8) (arg9.view.read (Elt F) (s).1) (arg11.view.read (Elt F) (s).2.1) (arg12.view.read (Elt F) (s).2.2.1) (arg13.view.read (Elt F) (s).2.2.2)
         (harg9.unread (View.canon T.1), harg11.unread (View.canon T.2.1), harg12.unread (View.canon T.2.2.1), harg13.unread (View.canon T.2.2.2.1))) := by
      rw [pb, dif_pos k.isLt]
    have h9 : (Nat.casesOn (motive := fun _ => Buf (Elt F) (arg9.view.loc (c : Thread nD τ))) k.val g9 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).1) = (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val).1 := by cases k.val <;> rfl
    have h11 : (Nat.casesOn (motive := fun _ => Buf (Elt F) (arg11.view.loc (c : Thread nD τ))) k.val g11 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.1) = (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val).2.1 := by cases k.val <;> rfl
    have h12 : (Nat.casesOn (motive := fun _ => Buf (Elt F) (arg12.view.loc (c : Thread nD τ))) k.val g12 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.2.1) = (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val).2.2.1 := by cases k.val <;> rfl
    have h13 : (Nat.casesOn (motive := fun _ => Buf (Elt F) (arg13.view.loc (c : Thread nD τ))) k.val g13 fun n => (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) (n + 1)).2.2.2) = (pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val).2.2.2 := by cases k.val <;> rfl
    rw [h9, h11, h12, h13]
    clear h9 h11 h12 h13
    dsimp only
    rw [e]
    generalize pb c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 g4 g8 (g9, g11, g12, g13) k.val = s
    iintro ⟨H4, H8, ⟨%f9, H9, %e9⟩, ⟨%f10, H10⟩, ⟨%f11, H11, %e11⟩, ⟨%f12, H12, %e12⟩, ⟨%f13, H13, %e13⟩, ⟨%f14, H14⟩⟩
    subst e9 e11 e12 e13
    iapply (trip1 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k (arg4.view.read (Elt F) g4) (arg8.view.read (Elt F) g8) (arg9.view.read (Elt F) s.1) (arg11.view.read (Elt F) s.2.1) (arg12.view.read (Elt F) s.2.2.1) (arg13.view.read (Elt F) s.2.2.2)).2.2.2.2 E _
    unfold owns
    isplitl [H4]
    · iexists _; isplitr; · ipureintro; rfl
      iexact H4
    isplitl [H8]
    · iexists _; isplitr; · ipureintro; rfl
      iexact H8
    isplitl [H9]
    · iexists _; isplitr; · ipureintro; rfl
      iexact H9
    isplitl [H10]
    · iexists _; iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]; · iexists _; iexact H14
    iintro ⟨⟨%f4, %hf4, H4⟩, ⟨%f8, %hf8, H8⟩, ⟨%f9, H9⟩, ⟨%f10, H10⟩, ⟨%f11, H11⟩, ⟨%f12, H12⟩, ⟨%f13, H13⟩, ⟨%f14, H14⟩⟩
    obtain rfl := (harg4.eq_unread hf4).trans (harg4.eq_unread rfl).symm; obtain rfl := (harg8.eq_unread hf8).trans (harg8.eq_unread rfl).symm
    isplitl [H4]; · iexact H4
    isplitl [H8]; · iexact H8
    isplitl [H9]
    · iexists _; isplitl [H9]; · iexact H9
      ipureintro; exact writes_whole arg9 harg9 _ _ (trip1_cover9 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k _ _ _ _ _ _)
    isplitl [H10]; · iexists _; iexact H10
    isplitl [H11]
    · iexists _; isplitl [H11]; · iexact H11
      ipureintro; exact writes_whole arg11 harg11 _ _ (trip1_cover11 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k _ _ _ _ _ _)
    isplitl [H12]
    · iexists _; isplitl [H12]; · iexact H12
      ipureintro; exact writes_whole arg12 harg12 _ _ (trip1_cover12 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k _ _ _ _ _ _)
    isplitl [H13]
    · iexists _; isplitl [H13]; · iexact H13
      ipureintro; exact writes_whole arg13 harg13 _ _ (trip1_cover13 c i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 k _ _ _ _ _ _)
    iexists _; iexact H14

set_option warn.classDefReducibility false in
/-- The loop left over by the pairing has no trip, so it needs nothing. -/
@[sl_loop] def loopInv2 (E : Set ℕ) (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (arg1 : BitVec 32) (v4 : FVec F S256x256 .bf16) (v16 : FVec F S16x256 .bf16) (c0 v92 c1 : BitVec 32) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg1 v4 v16 c0 v92 c1 where
  inv _ _ := iprop(emp)
  step k _ := (Nat.not_lt_zero _ (Nat.lt_of_lt_of_eq k.isLt (trips2_eq i))).elim

end Cert.Attn
-- ==== Proof.AttnRunB.lean ====
/-
  One run of the differential attention kernel's body: case B.
-/
module

public import proofs.«01_k».proof.Proof.Gen.KernelIdeal.Frame
public import proofs.«01_k».proof.Proof.Gen.KernelIdeal.Loops
public import proofs.«01_k».proof.Proof.AttnLoop
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body at a later even tile of queries. -/
noncomputable def runB (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val % 2 = 0) (h0 : (i 1).val ≠ 0)
    (x2 : Vec F S1x256x256 .f32) (x3 : Vec F S4096x256 .bf16) (x4 : Vec F S16x256x256 .bf16) (x5 : Vec F S4x32 .f32) (x6 : Vec F S64x1 .f32) (x8 : Vec F S16x2048x256 .bf16) (x12 : Vec F S2x2048x256 .f32) (x13 : Vec F S2x8x1x256 .f32) :
    Σ' (L7 : List (View.Piece (Elt F) S256x256 .bf16)) (y12 : Vec F S2x2048x256 .f32), { y13 : Vec F S2x8x1x256 .f32 //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y12 ∗ owns (c : Thread nD τ) arg13 fullShare y13 ∗ (∃ d, owns (c : Thread nD τ) arg14 fullShare d) ∗ (∃ d, owns (c : Thread nD τ) arg15 fullShare d)) -∗ K ⟨⟩))
        ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K } := by
  have hc1 : ¬ cnd1 i := fun e => absurd ((cond1_iff i).mp e) h0
  have hc2 : k0_cond2 i = 1#1 := (cond2_iff i).mpr h
  have hc3 : ¬ k0_cond3 i = 1#1 := fun e => absurd ((cond3_iff i).mp e) (by omega)
  refine ⟨?_, ?_, ?_, fun E K => ?run⟩
  case run =>
    rw [cc0_diff_attn_eq_skeleton]; unfold cc0_diff_attn_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%d9, %f9, %hf9, H9⟩, ⟨%d10, %f10, %hf10, H10⟩, ⟨%d11, %f11, %hf11, H11⟩, ⟨%f12, %hf12, H12⟩, ⟨%f13, %hf13, H13⟩, ⟨%d14, %f14, %hf14, H14⟩, ⟨%d15, %f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12; obtain rfl := harg13.eq_unread hf13
    sl_exec_parts! (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    isplitl [H9]
    · iapply (own_any c arg9 _); iexact H9
    isplitl [H10]
    · iapply (own_any c arg10 _); iexact H10
    isplitl [H11]
    · iapply (own_any c arg11 _); iexact H11
    isplitl [H12]
    · iexists _; isplitr; swap; · iexact H12
      ipureintro; rfl
    isplitl [H13]
    · iexists _; isplitr; swap; · iexact H13
      ipureintro; rfl
    isplitl [H14]
    · iapply (own_any c arg14 _); iexact H14
    iapply (own_any c arg15 _); iexact H15

set_option maxHeartbeats 8000000 in
theorem runB_cover7 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val % 2 = 0) (h0 : (i 1).val ≠ 0)
    (x2 : Vec F S1x256x256 .f32) (x3 : Vec F S4096x256 .bf16) (x4 : Vec F S16x256x256 .bf16) (x5 : Vec F S4x32 .f32) (x6 : Vec F S64x1 .f32) (x8 : Vec F S16x2048x256 .bf16) (x12 : Vec F S2x2048x256 .f32) (x13 : Vec F S2x8x1x256 .f32) (y : S256x256.Idx) :
    ∃ p ∈ (runB c i arg2 harg2 arg3 harg3 arg4 harg4 arg5 harg5 arg6 harg6 arg7 harg7 arg8 harg8 arg9 harg9 arg10 harg10 arg11 harg11 arg12 harg12 arg13 harg13 arg14 harg14 arg15 harg15 h h0 x2 x3 x4 x5 x6 x8 x12 x13).1, y ∈ p.1.set :=
  View.cover_of_tiledL _ ![256, 256] (by sl_kernel_rfl) y

end Cert.Attn
-- ==== Proof.AttnRunC.lean ====
/-
  One run of the differential attention kernel's body: case C.
-/
module

public import proofs.«01_k».proof.Proof.Gen.KernelIdeal.Frame
public import proofs.«01_k».proof.Proof.Gen.KernelIdeal.Loops
public import proofs.«01_k».proof.Proof.AttnLoop
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body at an odd tile of queries. -/
noncomputable def runC (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val % 2 = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) (x12 : Vec F S2x2048x256 .f32) (x13 : Vec F S2x8x1x256 .f32) :
    Σ' (L7 : List (View.Piece (Elt F) S256x256 .bf16)) (y12 : Vec F S2x2048x256 .f32), { y13 : Vec F S2x8x1x256 .f32 //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y12 ∗ owns (c : Thread nD τ) arg13 fullShare y13 ∗ (∃ d, owns (c : Thread nD τ) arg14 fullShare d) ∗ (∃ d, owns (c : Thread nD τ) arg15 fullShare d)) -∗ K ⟨⟩))
        ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K } := by
  have hc1 : ¬ cnd1 i := fun e => absurd ((cond1_iff i).mp e) (by omega)
  have hc2 : ¬ k0_cond2 i = 1#1 := fun e => absurd ((cond2_iff i).mp e) (by omega)
  have hc3 : k0_cond3 i = 1#1 := (cond3_iff i).mpr h
  refine ⟨?_, ?_, ?_, fun E K => ?run⟩
  case run =>
    rw [cc0_diff_attn_eq_skeleton]; unfold cc0_diff_attn_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%d9, %f9, %hf9, H9⟩, ⟨%d10, %f10, %hf10, H10⟩, ⟨%d11, %f11, %hf11, H11⟩, ⟨%f12, %hf12, H12⟩, ⟨%f13, %hf13, H13⟩, ⟨%d14, %f14, %hf14, H14⟩, ⟨%d15, %f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12; obtain rfl := harg13.eq_unread hf13
    sl_exec_parts! (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    isplitl [H9]
    · iapply (own_any c arg9 _); iexact H9
    isplitl [H10]
    · iapply (own_any c arg10 _); iexact H10
    isplitl [H11]
    · iapply (own_any c arg11 _); iexact H11
    isplitl [H12]
    · iexists _; isplitr; swap; · iexact H12
      ipureintro; rfl
    isplitl [H13]
    · iexists _; isplitr; swap; · iexact H13
      ipureintro; rfl
    isplitl [H14]
    · iapply (own_any c arg14 _); iexact H14
    iapply (own_any c arg15 _); iexact H15

set_option maxHeartbeats 8000000 in
theorem runC_cover7 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val % 2 = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) (x12 : Vec F S2x2048x256 .f32) (x13 : Vec F S2x8x1x256 .f32) (y : S256x256.Idx) :
    ∃ p ∈ (runC c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6 x8 x12 x13).1, y ∈ p.1.set :=
  View.cover_of_tiledL _ ![256, 256] (by sl_kernel_rfl) y

end Cert.Attn
-- ==== Proof.AttnRunD.lean ====
/-
  One run of the differential attention kernel's body: case D.
-/
module

public import proofs.«01_k».proof.Proof.Gen.KernelIdeal.Frame
public import proofs.«01_k».proof.Proof.Gen.KernelIdeal.Loops
public import proofs.«01_k».proof.Proof.AttnCond
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body at the second tile of queries. -/
noncomputable def runD (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) :
    Σ' (L7 : List (View.Piece (Elt F) S256x256 .bf16)) (L12 : List (View.Piece (Elt F) S2x2048x256 .f32)), { L13 : List (View.Piece (Elt F) S2x8x1x256 .f32) //
      ∀ (E : Set ℕ) (K : Unit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, (arg7.view.loc (c : Thread nD τ) ↦[arg7.view.set]{fullShare} arg7.view.writes (Elt F) f L7)) ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ d, owns (c : Thread nD τ) arg14 fullShare d) ∗ (∃ d, owns (c : Thread nD τ) arg15 fullShare d)) -∗ K ⟨⟩))
        ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K } := by
  have hc1 : ¬ cnd1 i := fun e => absurd ((cond1_iff i).mp e) (by omega)
  have hc2 : ¬ k0_cond2 i = 1#1 := fun e => absurd ((cond2_iff i).mp e) (by omega)
  have hc3 : k0_cond3 i = 1#1 := (cond3_iff i).mpr (by omega)
  have htr : (k0_t1_loop i).trips = 0 := by rw [trips1_eq]; omega
  have htr2 : (k0_t2_loop i).trips = 0 := trips2_eq i
  refine ⟨?_, ?_, ?_, fun E K => ?run⟩
  case run =>
    rw [cc0_diff_attn_eq_skeleton]; unfold cc0_diff_attn_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg8.eq_unread hf8
    sl_exec_parts! (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; isplitr; · ipureintro; exact harg8.read_unread _
      iexact H8
    isplitl [H9]
    · iapply (own_any c arg9 _); iexact H9
    isplitl [H10]
    · iapply (own_any c arg10 _); iexact H10
    isplitl [H11]
    · iapply (own_any c arg11 _); iexact H11
    isplitl [H12]
    · iexists _; iexact H12
    isplitl [H13]
    · iexists _; iexact H13
    isplitl [H14]
    · iapply (own_any c arg14 _); iexact H14
    iapply (own_any c arg15 _); iexact H15

set_option maxHeartbeats 8000000 in
theorem runD_cover7 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) (y : S256x256.Idx) :
    ∃ p ∈ (runD c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6 x8).1, y ∈ p.1.set :=
  View.cover_of_tiledL _ ![256, 256] (by sl_kernel_rfl) y

set_option maxHeartbeats 8000000 in
theorem runD_cover12 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) (y : S2x2048x256.Idx) :
    ∃ p ∈ (runD c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6 x8).2.1, y ∈ p.1.set :=
  View.cover_of_tiledL _ ![1, 2048, 256] (by sl_kernel_rfl) y

set_option maxHeartbeats 8000000 in
theorem runD_cover13 (c : Dev nD) (i : grid0.Coords) (arg2 : Memref sig .tc .vmem S1x256x256 .f32) (harg2 : arg2.IsWhole) (arg3 : Memref sig .tc .vmem S4096x256 .bf16) (harg3 : arg3.IsWhole) (arg4 : Memref sig .tc .vmem S16x256x256 .bf16) (harg4 : arg4.IsWhole) (arg5 : Memref sig .tc .vmem S4x32 .f32) (harg5 : arg5.IsWhole) (arg6 : Memref sig .tc .vmem S64x1 .f32) (harg6 : arg6.IsWhole) (arg7 : Memref sig .tc .vmem S256x256 .bf16) (harg7 : arg7.IsWhole) (arg8 : Memref sig .tc .vmem S16x2048x256 .bf16) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x80x256 .f32) (harg11 : arg11.IsWhole) (arg12 : Memref sig .tc .vmem S2x2048x256 .f32) (harg12 : arg12.IsWhole) (arg13 : Memref sig .tc .vmem S2x8x1x256 .f32) (harg13 : arg13.IsWhole) (arg14 : Memref sig .tc .vmem S8x256x256 .bf16) (harg14 : arg14.IsWhole) (arg15 : Memref sig .tc .vmem S256x256 .f32) (harg15 : arg15.IsWhole) (h : (i 1).val = 1)
    (x2 : Vec F S1x256x256 .f32) (x3 : Vec F S4096x256 .bf16) (x4 : Vec F S16x256x256 .bf16) (x5 : Vec F S4x32 .f32) (x6 : Vec F S64x1 .f32) (x8 : Vec F S16x2048x256 .bf16) (y : S2x8x1x256.Idx) :
    ∃ p ∈ (runD c i arg2 harg2 arg3 harg3 arg4 harg4 arg5 harg5 arg6 harg6 arg7 harg7 arg8 harg8 arg9 harg9 arg10 harg10 arg11 harg11 arg12 harg12 arg13 harg13 arg14 harg14 arg15 harg15 h x2 x3 x4 x5 x6 x8).2.2.1, y ∈ p.1.set :=
  View.cover_of_tiledL _ ![1, 1, 1, 256] (by sl_kernel_rfl) y

end Cert.Attn
-- ==== Proof.AttnFrame.lean ====
/-
  The frame of the differential attention kernel: what its scratch holds between points, the run of its grid, and its arguments left unchanged.
-/
module

public import proofs.«01_k».proof.Proof.Gen.KernelIdeal.Frame
public import proofs.«01_k».proof.Proof.Gen.KernelIdeal.Loops
public import proofs.«01_k».proof.Proof.AttnRunA
public import proofs.«01_k».proof.Proof.AttnRunB
public import proofs.«01_k».proof.Proof.AttnRunC
public import proofs.«01_k».proof.Proof.AttnRunD
public import Idealize.ShloMosaic.Lib.Claim
@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev scM0 : Memref sig .tc .vmem S16x2048x256 .bf16 := Memref.whole cc0_scratch0
abbrev scM1 : Memref sig .tc .vmem S8x1x256 .f32 := Memref.whole cc0_scratch1
abbrev scM2 : Memref sig .tc .vmem S8x1x256 .f32 := Memref.whole cc0_scratch2
abbrev scM3 : Memref sig .tc .vmem S8x80x256 .f32 := Memref.whole cc0_scratch3
abbrev scM4 : Memref sig .tc .vmem S2x2048x256 .f32 := Memref.whole cc0_scratch4
abbrev scM5 : Memref sig .tc .vmem S2x8x1x256 .f32 := Memref.whole cc0_scratch5
abbrev scM6 : Memref sig .tc .vmem S8x256x256 .bf16 := Memref.whole cc0_scratch6
abbrev scM7 : Memref sig .tc .vmem S256x256 .f32 := Memref.whole cc0_scratch7

/-- The position of a point within its batch element. -/
theorem pos_eq (t : Fin cfg0.N) : (grid0.coords t 1).val = t.val % 16 := by
  have e1 : (grid0.coords t 1).val = t.val / 1 % 16 := Pipeline.Grid.coords_val t 1 (by decide) rfl
  rw [e1, Nat.div_one]

/-- The keys, the scores and their maxima that a point leaves, from those it finds. -/
def stStep (c : Dev nD) (t : Fin cfg0.N) (p : Vec F S16x2048x256 .bf16 × Vec F S2x2048x256 .f32 × Vec F S2x8x1x256 .f32) : Vec F S16x2048x256 .bf16 × Vec F S2x2048x256 .f32 × Vec F S2x8x1x256 .f32 :=
  if h : (grid0.coords t 1).val = 0 then (View.canon (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h (iblk m c 0 t) (iblk m c 1 t) (iblk m c 2 t) (iblk m c 3 t) (iblk m c 4 t)).2.1, p.2.1, p.2.2)
  else if h1 : (grid0.coords t 1).val = 1 then (p.1, View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) p.1).2.1, View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) p.1).2.2.1)
  else if h2 : (grid0.coords t 1).val % 2 = 0 then (p.1, (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) p.1 p.2.1 p.2.2).2.1, (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) p.1 p.2.1 p.2.2).2.2.1)
  else (p.1, (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) p.1 p.2.1 p.2.2).2.1, (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) p.1 p.2.1 p.2.2).2.2.1)

/-- The carried keys, scores and maxima before point `n`. -/
def stB (c : Dev nD) : ℕ → Vec F S16x2048x256 .bf16 × Vec F S2x2048x256 .f32 × Vec F S2x8x1x256 .f32
  | 0 => (View.canon [], View.canon [], View.canon [])
  | n + 1 => if h : n < cfg0.N then stStep m c ⟨n, h⟩ (stB c n) else stB c n

theorem stB_succ (c : Dev nD) (t : Fin cfg0.N) : stB m c (t.val + 1) = stStep m c t (stB m c t.val) := by
  rw [stB, dif_pos t.isLt]

/-- The block of the output that a point stores. -/
def outAt (c : Dev nD) (t : Fin cfg0.N) (p : Vec F S16x2048x256 .bf16 × Vec F S2x2048x256 .f32 × Vec F S2x8x1x256 .f32) : Vec F S256x256 .bf16 :=
  if h : (grid0.coords t 1).val = 0 then View.canon (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h (iblk m c 0 t) (iblk m c 1 t) (iblk m c 2 t) (iblk m c 3 t) (iblk m c 4 t)).1
  else if h1 : (grid0.coords t 1).val = 1 then View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) p.1).1
  else if h2 : (grid0.coords t 1).val % 2 = 0 then View.canon (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) p.1 p.2.1 p.2.2).1
  else View.canon (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) p.1 p.2.1 p.2.2).1

theorem PhiA_eq (c : Dev nD) :
    (Pipeline.ΦA spec0 c : sProp 𝕄)
      = iprop(((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The scratch before point `n`: the keys known past a batch element's first point, the scores and maxima past its second. -/
def PhiS (c : Dev nD) (n : ℕ) : sProp 𝕄 :=
  iprop(((∃ x, owns (c : Thread nD τ) scM0 fullShare x ∗ ⌜n % 16 ≠ 0 → x = (stB m c n).1⌝)
    ∗ (∃ d, owns (c : Thread nD τ) scM1 fullShare d) ∗ (∃ d, owns (c : Thread nD τ) scM2 fullShare d) ∗ (∃ d, owns (c : Thread nD τ) scM3 fullShare d)
    ∗ (∃ x, owns (c : Thread nD τ) scM4 fullShare x ∗ ⌜n % 16 ≠ 0 → n % 16 ≠ 1 → x = (stB m c n).2.1⌝)
    ∗ (∃ x, owns (c : Thread nD τ) scM5 fullShare x ∗ ⌜n % 16 ≠ 0 → n % 16 ≠ 1 → x = (stB m c n).2.2⌝)
    ∗ (∃ d, owns (c : Thread nD τ) scM6 fullShare d) ∗ (∃ d, owns (c : Thread nD τ) scM7 fullShare d)) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t (stB m c t.val)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t (stB m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
theorem sound_A (c : Dev nD) (t : Fin cfg0.N) (h : (grid0.coords t 1).val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  have hp := pos_eq t
  unfold PhiS
  rw [show outAt m c t (stB m c t.val) = View.canon (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h (iblk m c 0 t) (iblk m c 1 t) (iblk m c 2 t) (iblk m c 3 t) (iblk m c 4 t)).1 from by unfold outAt; rw [dif_pos h]]
  have hst : stB m c (t.val + 1) = (View.canon (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h (iblk m c 0 t) (iblk m c 1 t) (iblk m c 2 t) (iblk m c 3 t) (iblk m c 4 t)).2.1, (stB m c t.val).2.1, (stB m c t.val).2.2) := by rw [stB_succ]; unfold stStep; rw [dif_pos h]
  rw [hst]
  iintro ⟨⟨⟨⟨%x8, HS0, %e8⟩, HS1, HS2, HS3, ⟨%x12, HS4, %e12⟩, ⟨%x13, HS5, %e13⟩, HS6, HS7⟩, Hg⟩, Ho, ⟨%d0, H0⟩, ⟨%d1, H1⟩, ⟨%d2, H2⟩, ⟨%d3, H3⟩, ⟨%d4, H4⟩, ⟨%d5, H5⟩⟩
  iapply ((runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexists _; iexact HS0
  isplitl [HS1]; · iexact HS1
  isplitl [HS2]; · iexact HS2
  isplitl [HS3]; · iexact HS3
  isplitl [HS4]; · iexists _; iexact HS4
  isplitl [HS5]; · iexists _; iexact HS5
  isplitl [HS6]; · iexact HS6
  isplitl [HS7]; · iexact HS7
  iintro ⟨H0, H1, H2, H3, H4, ⟨%w5, H5⟩, ⟨%w0, HS0⟩, HS1, HS2, HS3, ⟨%x12', HS4⟩, ⟨%x13', HS5⟩, HS6, HS7⟩
  isplitl [HS0 HS1 HS2 HS3 HS4 HS5 HS6 HS7 Hg]
  · isplitl [HS0 HS1 HS2 HS3 HS4 HS5 HS6 HS7]
    · isplitl [HS0]
      · iexists _; isplitl [HS0]
        · unfold owns; iexists _; isplitr
          swap; · iexact HS0
          ipureintro; exact View.read_writes_eq_canon _ _ _ (runA_cover8 c _ _ _ _ _ _ _ _ _ _ _ _ _ _ _ _ _ _ _ _ _ _ _ _ _ _ _ _ _ h _ _ _ _ _)
        ipureintro; intro _; rfl
      isplitl [HS1]; · iexact HS1
      isplitl [HS2]; · iexact HS2
      isplitl [HS3]; · iexact HS3
      isplitl [HS4]; · iexists _; (isplitl [HS4]; · iexact HS4); ipureintro; intro _ h'; exact absurd (by omega) h'
      isplitl [HS5]; · iexists _; (isplitl [HS5]; · iexact HS5); ipureintro; intro _ h'; exact absurd (by omega) h'
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runA_cover7 c _ _ _ _ _ _ _ _ _ _ _ _ _ _ _ _ _ _ _ _ _ _ _ _ _ _ _ _ _ h _ _ _ _ _)

set_option maxHeartbeats 9600000 in
theorem sound_D (c : Dev nD) (t : Fin cfg0.N) (h : ¬ (grid0.coords t 1).val = 0) (h1 : (grid0.coords t 1).val = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  have hp := pos_eq t
  unfold PhiS
  rw [show outAt m c t (stB m c t.val) = View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) (stB m c t.val).1).1 from by unfold outAt; rw [dif_neg h, dif_pos h1]]
  have hst : stB m c (t.val + 1) = ((stB m c t.val).1, View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) (stB m c t.val).1).2.1, View.canon (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) (stB m c t.val).1).2.2.1) := by rw [stB_succ]; unfold stStep; rw [dif_neg h, dif_pos h1]
  rw [hst]
  iintro ⟨⟨⟨⟨%x8, HS0, %e8⟩, HS1, HS2, HS3, ⟨%x12, HS4, %e12⟩, ⟨%x13, HS5, %e13⟩, HS6, HS7⟩, Hg⟩, Ho, ⟨%d0, H0⟩, ⟨%d1, H1⟩, ⟨%d2, H2⟩, ⟨%d3, H3⟩, ⟨%d4, H4⟩, ⟨%d5, H5⟩⟩
  obtain rfl := e8 (by omega)
  iapply ((runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h1 (iblk m c 0 t) (iblk m c 1 t) (iblk m c 2 t) (iblk m c 3 t) (iblk m c 4 t) (stB m c t.val).1).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexists _; iexact HS4
  isplitl [HS5]; · iexists _; iexact HS5
  isplitl [HS6]; · iexact HS6
  isplitl [HS7]; · iexact HS7
  iintro ⟨H0, H1, H2, H3, H4, ⟨%w5, H5⟩, HS0, HS1, HS2, HS3, ⟨%x12', HS4⟩, ⟨%x13', HS5⟩, HS6, HS7⟩
  isplitl [HS0 HS1 HS2 HS3 HS4 HS5 HS6 HS7 Hg]
  · isplitl [HS0 HS1 HS2 HS3 HS4 HS5 HS6 HS7]
    · isplitl [HS0]; · iexists _; (isplitl [HS0]; · iexact HS0); ipureintro; intro _; rfl
      isplitl [HS1]; · iexact HS1
      isplitl [HS2]; · iexact HS2
      isplitl [HS3]; · iexact HS3
      isplitl [HS4]
      · iexists _; isplitl [HS4]
        · unfold owns; iexists _; isplitr
          swap; · iexact HS4
          ipureintro; exact View.read_writes_eq_canon _ _ _ (runD_cover12 c _ _ _ _ _ _ _ _ _ _ _ _ _ _ _ _ _ _ _ _ _ _ _ _ _ _ _ _ _ h1 _ _ _ _ _ _)
        ipureintro; intro _ _; rfl
      isplitl [HS5]
      · iexists _; isplitl [HS5]
        · unfold owns; iexists _; isplitr
          swap; · iexact HS5
          ipureintro; exact View.read_writes_eq_canon _ _ _ (runD_cover13 c _ _ _ _ _ _ _ _ _ _ _ _ _ _ _ _ _ _ _ _ _ _ _ _ _ _ _ _ _ h1 _ _ _ _ _ _)
        ipureintro; intro _ _; rfl
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runD_cover7 c _ _ _ _ _ _ _ _ _ _ _ _ _ _ _ _ _ _ _ _ _ _ _ _ _ _ _ _ _ h1 _ _ _ _ _ _)

set_option maxHeartbeats 9600000 in
theorem sound_B (c : Dev nD) (t : Fin cfg0.N) (h : ¬ (grid0.coords t 1).val = 0) (h1 : ¬ (grid0.coords t 1).val = 1) (h2 : (grid0.coords t 1).val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  have hp := pos_eq t
  unfold PhiS
  rw [show outAt m c t (stB m c t.val) = View.canon (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) (stB m c t.val).1 (stB m c t.val).2.1 (stB m c t.val).2.2).1 from by unfold outAt; rw [dif_neg h, dif_neg h1, dif_pos h2]]
  have hst : stB m c (t.val + 1) = ((stB m c t.val).1, (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) (stB m c t.val).1 (stB m c t.val).2.1 (stB m c t.val).2.2).2.1, (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) (stB m c t.val).1 (stB m c t.val).2.1 (stB m c t.val).2.2).2.2.1) := by rw [stB_succ]; unfold stStep; rw [dif_neg h, dif_neg h1, dif_pos h2]
  rw [hst]
  iintro ⟨⟨⟨⟨%x8, HS0, %e8⟩, HS1, HS2, HS3, ⟨%x12, HS4, %e12⟩, ⟨%x13, HS5, %e13⟩, HS6, HS7⟩, Hg⟩, Ho, ⟨%d0, H0⟩, ⟨%d1, H1⟩, ⟨%d2, H2⟩, ⟨%d3, H3⟩, ⟨%d4, H4⟩, ⟨%d5, H5⟩⟩
  obtain rfl := e8 (by omega)
  obtain rfl := e12 (by omega) (by omega); obtain rfl := e13 (by omega) (by omega)
  iapply ((runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) h2 h (iblk m c 0 t) (iblk m c 1 t) (iblk m c 2 t) (iblk m c 3 t) (iblk m c 4 t) (stB m c t.val).1 (stB m c t.val).2.1 (stB m c t.val).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, ⟨%w5, H5⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexists _; (isplitl [HS0]; · iexact HS0); ipureintro; intro _; rfl
      isplitl [HS1]; · iexact HS1
      isplitl [HS2]; · iexact HS2
      isplitl [HS3]; · iexact HS3
      isplitl [HS4]; · iexists _; (isplitl [HS4]; · iexact HS4); ipureintro; intro _ _; rfl
      isplitl [HS5]; · iexists _; (isplitl [HS5]; · iexact HS5); ipureintro; intro _ _; rfl
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runB_cover7 c _ _ _ _ _ _ _ _ _ _ _ _ _ _ _ _ _ _ _ _ _ _ _ _ _ _ _ _ _ h2 h _ _ _ _ _ _ _ _)

set_option maxHeartbeats 9600000 in
theorem sound_C (c : Dev nD) (t : Fin cfg0.N) (h : ¬ (grid0.coords t 1).val = 0) (h1 : ¬ (grid0.coords t 1).val = 1) (h2 : ¬ (grid0.coords t 1).val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  have hp := pos_eq t
  unfold PhiS
  rw [show outAt m c t (stB m c t.val) = View.canon (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) (stB m c t.val).1 (stB m c t.val).2.1 (stB m c t.val).2.2).1 from by unfold outAt; rw [dif_neg h, dif_neg h1, dif_neg h2]]
  have hst : stB m c (t.val + 1) = ((stB m c t.val).1, (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) (stB m c t.val).1 (stB m c t.val).2.1 (stB m c t.val).2.2).2.1, (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) (stB m c t.val).1 (stB m c t.val).2.1 (stB m c t.val).2.2).2.2.1) := by rw [stB_succ]; unfold stStep; rw [dif_neg h, dif_neg h1, dif_neg h2]
  rw [hst]
  iintro ⟨⟨⟨⟨%x8, HS0, %e8⟩, HS1, HS2, HS3, ⟨%x12, HS4, %e12⟩, ⟨%x13, HS5, %e13⟩, HS6, HS7⟩, Hg⟩, Ho, ⟨%d0, H0⟩, ⟨%d1, H1⟩, ⟨%d2, H2⟩, ⟨%d3, H3⟩, ⟨%d4, H4⟩, ⟨%d5, H5⟩⟩
  obtain rfl := e8 (by omega)
  obtain rfl := e12 (by omega) (by omega); obtain rfl := e13 (by omega) (by omega)
  iapply ((runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (Nat.mod_two_ne_zero.mp h2) (iblk m c 0 t) (iblk m c 1 t) (iblk m c 2 t) (iblk m c 3 t) (iblk m c 4 t) (stB m c t.val).1 (stB m c t.val).2.1 (stB m c t.val).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, ⟨%w5, H5⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexists _; (isplitl [HS0]; · iexact HS0); ipureintro; intro _; rfl
      isplitl [HS1]; · iexact HS1
      isplitl [HS2]; · iexact HS2
      isplitl [HS3]; · iexact HS3
      isplitl [HS4]; · iexists _; (isplitl [HS4]; · iexact HS4); ipureintro; intro _ _; rfl
      isplitl [HS5]; · iexists _; (isplitl [HS5]; · iexact HS5); ipureintro; intro _ _; rfl
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runC_cover7 c _ _ _ _ _ _ _ _ _ _ _ _ _ _ _ _ _ _ _ _ _ _ _ _ _ _ _ _ _ (Nat.mod_two_ne_zero.mp h2) _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : (grid0.coords t 1).val = 0
  · exact sound_A m c t h
  by_cases h1 : (grid0.coords t 1).val = 1
  · exact sound_D m c t h h1
  by_cases h2 : (grid0.coords t 1).val % 2 = 0
  · exact sound_B m c t h h1 h2
  · exact sound_C m c t h h1 h2

theorem sharedIn0 : Pipeline.SharedIn spec0 := by decide
theorem winFacts₀0 : Pipeline.WinFacts₀ spec0 := by decide
theorem launch₀0 : Pipeline.LaunchFacts₀ (nD := nD) (τ := τ) cfgs 0 := ⟨cellOf_inj, winFacts₀0, sharedIn0, block_pos0, arr_whole0, stage_whole0⟩

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA_eq]
  unfold PhiS
  iintro ⟨⟨⟨%x8, HS0⟩, HS1, HS2, HS3, ⟨%x12, HS4⟩, ⟨%x13, HS5⟩, HS6, HS7⟩, Hg⟩
  isplitl [HS0 HS1 HS2 HS3 HS4 HS5 HS6 HS7]
  · isplitl [HS0]; · iexists _; (isplitl [HS0]; · iexact HS0); ipureintro; intro h; exact absurd rfl h
    isplitl [HS1]; · iexact HS1
    isplitl [HS2]; · iexact HS2
    isplitl [HS3]; · iexact HS3
    isplitl [HS4]; · iexists _; (isplitl [HS4]; · iexact HS4); ipureintro; intro h; exact absurd rfl h
    isplitl [HS5]; · iexists _; (isplitl [HS5]; · iexact HS5); ipureintro; intro h; exact absurd rfl h
    isplitl [HS6]; · iexact HS6
    iexact HS7
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨⟨%x8, HS0, %e8⟩, HS1, HS2, HS3, ⟨%x12, HS4, %e12⟩, ⟨%x13, HS5, %e13⟩, HS6, HS7⟩, Hg⟩
  isplitl [HS0 HS1 HS2 HS3 HS4 HS5 HS6 HS7]
  · isplitl [HS0]; · iexists _; iexact HS0
    isplitl [HS1]; · iexact HS1
    isplitl [HS2]; · iexact HS2
    isplitl [HS3]; · iexact HS3
    isplitl [HS4]; · iexists _; iexact HS4
    isplitl [HS5]; · iexists _; iexact HS5
    isplitl [HS6]; · iexact HS6
    iexact HS7
  iexact Hg

set_option backward.isDefEq.respectTransparency.types false in
/-- The run of the program: what every array ends with, and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_counters m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_counters m ρ))

end Cert.Attn

end
-- ==== Proof.AttnClaim.lean ====
/-
  The claims about the differential attention call: the program and its reading over the extended reals run, leave
  their arguments and end with every counter at zero, both from the one run of `AttnFrame`; the two named constants.
-/
module

public import proofs.«01_k».proof.Defs
public import proofs.«01_k».proof.Proof.Gen.Kernel
public import proofs.«01_k».proof.Proof.Gen.KernelIdeal
public import proofs.«01_k».proof.Proof.AttnFrame
public import proofs.«01_k».proof.Proof.Gen.ReferenceIdeal
public import proofs.«01_k».proof.Proof.Gen.ReferenceIdeal.Run
@[expose] public section

set_option maxRecDepth 16384

noncomputable section

namespace Cert.AttnClaim

open Idealize.ShloMosaic Idealize.SL.Sem

/-- At the bits a named constant is the constant the program writes. -/
instance namedBits : Named Bits where
  named _ _ {φ} bits := FloatOps.ofBits φ bits

theorem frame_kernelIdeal : Cert.quiescent_KernelIdeal (hKernelIdeal := Cert.KernelIdeal.Gen.facts) :=
  fun m ρ _ => Cert.Attn.frame (F := Ideal) m ρ

attribute [local instance] Cert.Kernel.Gen.facts Cert.KernelIdeal.Gen.facts

/-- The body of the program is the body of its ideal reading, read at the bits. -/
theorem defs₀_eq : Cert.Kernel.defs₀ (F := Bits) = Cert.KernelIdeal.defs₀ (F := Bits) := by
  unfold Cert.Kernel.defs₀ Cert.KernelIdeal.defs₀
  congr 1
  funext f x
  match f, x with
  | 0, (t, s) => rfl

theorem defs_eq : Cert.Kernel.defs (F := Bits) = Cert.KernelIdeal.defs (F := Bits) := by
  unfold Cert.Kernel.defs Cert.KernelIdeal.defs
  rw [defs₀_eq]
  rfl

/-- The program's own run is the same run read at the bits. -/
theorem frame_kernel : Cert.quiescent_Kernel (hKernel := Cert.Kernel.Gen.facts) := by
  intro m ρ _
  rw [defs_eq]
  exact Cert.Attn.frame (F := Bits) m ρ

/-- The reference runs and leaves its arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

/-- The two constants the program rounds: the query scale and the mask. -/
theorem preserves : Cert.preserves_Kernel_KernelIdeal :=
  ⟨IdealRules.named_const.statement Cert.KernelIdeal.κ "qk_scale" .f32 0x3E8293EE#32 (((11863283 / 67108864) * (Real.log 2)⁻¹ : ℝ) : EReal) rfl,
   IdealRules.named_const.statement Cert.KernelIdeal.κ "neg_big" .f32 0xF149F2CA#32 ⊥ rfl⟩

end Cert.AttnClaim

end
-- ==== Proof.lean ====
/-
  The claims: the attention call runs and leaves its arguments; so do the four feed-forward calls, and over the extended
  reals their results are the reference's. The attention run is `Proof/AttnFrame.lean`, the others are the generated ones;
  the values are `Proof/FfnClaim*.lean`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Reference2Ideal.Run
public import proofs.«01_k».proof.Proof.Gen.Kernel2Ideal.Value
public import proofs.«01_k».proof.Proof.FfnClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.FfnClaim3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.FfnClaim4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.FfnClaim5
public import proofs.«01_k».proof.Proof.AttnClaim

@[expose] public section

noncomputable section

namespace Cert.Proof

open Idealize.ShloMosaic Idealize.SL.Sem

/-- The feed-forward reference runs and leaves its arguments; it declares no semaphore. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run m ρ)

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩) (Cert.Reference3Ideal.Value.run m ρ)

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩) (Cert.Reference4Ideal.Value.run m ρ)

theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩) (Cert.Reference5Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.AttnClaim.frame_kernel, Cert.AttnClaim.frame_kernelIdeal, Cert.AttnClaim.frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  Cert.AttnClaim.preserves,
  trivial, Cert.Ffn.algebraic_ffn,
  trivial, Cert.Ffn3.algebraic_ffn3,
  trivial, Cert.Ffn4.algebraic_ffn4,
  trivial, Cert.Ffn5.algebraic_ffn5⟩

end Cert.Proof

end
